-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S8x128x128x3 : Shape := ⟨4, ![8, 128, 128, 3]⟩
abbrev S8x128x128 : Shape := ⟨3, ![8, 128, 128]⟩
abbrev S1x128x128 : Shape := ⟨3, ![1, 128, 128]⟩
abbrev S128x128 : Shape := ⟨2, ![128, 128]⟩
abbrev S16384 : Shape := ⟨1, ![16384]⟩
abbrev S2048 : Shape := ⟨1, ![2048]⟩
abbrev S1x128x128x3 : Shape := ⟨4, ![1, 128, 128, 3]⟩
abbrev S128x128x3 : Shape := ⟨3, ![128, 128, 3]⟩
abbrev S16384x3 : Shape := ⟨2, ![16384, 3]⟩
abbrev S_ : Shape := ⟨0, ![]⟩
abbrev S2048x1 : Shape := ⟨2, ![2048, 1]⟩
abbrev S2048x3 : Shape := ⟨2, ![2048, 3]⟩
abbrev S8x16384x3 : Shape := ⟨3, ![8, 16384, 3]⟩
abbrev S8x3x16384 : Shape := ⟨3, ![8, 3, 16384]⟩
abbrev S8x16384 : Shape := ⟨2, ![8, 16384]⟩
abbrev S7x3x16384 : Shape := ⟨3, ![7, 3, 16384]⟩
abbrev S7x2048x1 : Shape := ⟨3, ![7, 2048, 1]⟩
abbrev S256x3 : Shape := ⟨2, ![256, 3]⟩
abbrev S1x3x16384 : Shape := ⟨3, ![1, 3, 16384]⟩
abbrev S1x256x1 : Shape := ⟨3, ![1, 256, 1]⟩
abbrev S3x16384 : Shape := ⟨2, ![3, 16384]⟩
abbrev S256 : Shape := ⟨1, ![256]⟩
abbrev S256x1 : Shape := ⟨2, ![256, 1]⟩
abbrev S1x16384 : Shape := ⟨2, ![1, 16384]⟩
abbrev S256x16384 : Shape := ⟨2, ![256, 16384]⟩
abbrev S1x2048 : Shape := ⟨2, ![1, 2048]⟩
abbrev S7x2048 : Shape := ⟨2, ![7, 2048]⟩
abbrev S8x2048 : Shape := ⟨2, ![8, 2048]⟩
abbrev S8x1x16384 : Shape := ⟨3, ![8, 1, 16384]⟩
abbrev S131072 : Shape := ⟨1, ![131072]⟩
abbrev S512 : Shape := ⟨1, ![512]⟩
abbrev S16 : Shape := ⟨1, ![16]⟩
abbrev S8x2048x1 : Shape := ⟨3, ![8, 2048, 1]⟩
abbrev S8x2048x2 : Shape := ⟨3, ![8, 2048, 2]⟩
abbrev S8x2048x3 : Shape := ⟨3, ![8, 2048, 3]⟩

abbrev nBuf : Table → Nat
  | .hbm => 57
  | .local .tc .vmem => 6
  | .local .scVector .vmem => 11
  | _ => 0

abbrev bufTy : (tb : Table) → Fin (nBuf tb) → BufTy
  | .hbm, ⟨0, _⟩ => ⟨S8x128x128x3, .f32⟩
  | .hbm, ⟨1, _⟩ => ⟨S8x128x128, .f32⟩
  | .hbm, ⟨2, _⟩ => ⟨S1x128x128, .f32⟩
  | .hbm, ⟨3, _⟩ => ⟨S128x128, .f32⟩
  | .hbm, ⟨4, _⟩ => ⟨S16384, .f32⟩
  | .hbm, ⟨5, _⟩ => ⟨S2048, .f32⟩
  | .hbm, ⟨6, _⟩ => ⟨S2048, .i32⟩
  | .hbm, ⟨7, _⟩ => ⟨S1x128x128x3, .f32⟩
  | .hbm, ⟨8, _⟩ => ⟨S128x128x3, .f32⟩
  | .hbm, ⟨9, _⟩ => ⟨S16384x3, .f32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x3, .f32⟩
  | .hbm, ⟨19, _⟩ => ⟨S8x16384x3, .f32⟩
  | .hbm, ⟨20, _⟩ => ⟨S8x3x16384, .f32⟩
  | .hbm, ⟨21, _⟩ => ⟨S8x16384, .f32⟩
  | .hbm, ⟨22, _⟩ => ⟨S7x3x16384, .f32⟩
  | .hbm, ⟨23, _⟩ => ⟨S7x2048x1, .i32⟩
  | .hbm, ⟨24, _⟩ => ⟨S1x2048, .i32⟩
  | .hbm, ⟨25, _⟩ => ⟨S7x2048, .i32⟩
  | .hbm, ⟨26, _⟩ => ⟨S8x2048, .i32⟩
  | .hbm, ⟨27, _⟩ => ⟨S16384, .i32⟩
  | .hbm, ⟨28, _⟩ => ⟨S8x1x16384, .f32⟩
  | .hbm, ⟨29, _⟩ => ⟨S8x16384, .f32⟩
  | .hbm, ⟨30, _⟩ => ⟨S131072, .f32⟩
  | .hbm, ⟨31, _⟩ => ⟨S8x1x16384, .f32⟩
  | .hbm, ⟨32, _⟩ => ⟨S8x16384, .f32⟩
  | .hbm, ⟨33, _⟩ => ⟨S131072, .f32⟩
  | .hbm, ⟨34, _⟩ => ⟨S8x1x16384, .f32⟩
  | .hbm, ⟨35, _⟩ => ⟨S8x16384, .f32⟩
  | .hbm, ⟨36, _⟩ => ⟨S131072, .f32⟩
  | .hbm, ⟨37, _⟩ => ⟨S131072, .f32⟩
  | .hbm, ⟨38, _⟩ => ⟨S16384, .i32⟩
  | .hbm, ⟨39, _⟩ => ⟨S16384, .i32⟩
  | .hbm, ⟨40, _⟩ => ⟨S16384, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S8x2048, .i32⟩
  | .hbm, ⟨45, _⟩ => ⟨S8x2048, .i32⟩
  | .hbm, ⟨46, _⟩ => ⟨S8x2048x1, .i32⟩
  | .hbm, ⟨47, _⟩ => ⟨S8x2048x1, .i32⟩
  | .hbm, ⟨48, _⟩ => ⟨S8x2048x2, .i32⟩
  | .hbm, ⟨49, _⟩ => ⟨S8x2048, .f32⟩
  | .hbm, ⟨50, _⟩ => ⟨S8x2048, .f32⟩
  | .hbm, ⟨51, _⟩ => ⟨S8x2048, .f32⟩
  | .hbm, ⟨52, _⟩ => ⟨S8x2048x1, .f32⟩
  | .hbm, ⟨53, _⟩ => ⟨S8x2048x1, .f32⟩
  | .hbm, ⟨54, _⟩ => ⟨S8x2048x1, .f32⟩
  | .hbm, ⟨55, _⟩ => ⟨S8x2048x3, .f32⟩
  | .hbm, ⟨56, _⟩ => ⟨S8x2048, .f32⟩
  | .local .tc .vmem, ⟨0, _⟩ => ⟨S256x3, .f32⟩
  | .local .tc .vmem, ⟨1, _⟩ => ⟨S256x3, .f32⟩
  | .local .tc .vmem, ⟨2, _⟩ => ⟨S1x3x16384, .f32⟩
  | .local .tc .vmem, ⟨3, _⟩ => ⟨S1x3x16384, .f32⟩
  | .local .tc .vmem, ⟨4, _⟩ => ⟨S1x256x1, .i32⟩
  | .local .tc .vmem, ⟨5, _⟩ => ⟨S1x256x1, .i32⟩
  | .local .scVector .vmem, ⟨0, _⟩ => ⟨S512, .i32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16384, .f32⟩
  | .local .scVector .vmem, ⟨5, _⟩ => ⟨S512, .i32⟩
  | .local .scVector .vmem, ⟨6, _⟩ => ⟨S512, .i32⟩
  | .local .scVector .vmem, ⟨7, _⟩ => ⟨S512, .f32⟩
  | .local .scVector .vmem, ⟨8, _⟩ => ⟨S512, .f32⟩
  | .local .scVector .vmem, ⟨9, _⟩ => ⟨S512, .f32⟩
  | .local .scVector .vmem, ⟨10, _⟩ => ⟨S512, .f32⟩
  | _, _ => ⟨S8x128x128x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32_0 : Ref sig .tc := ⟨.hbm, 38, rfl⟩
abbrev main_v32_1 : Ref sig .tc := ⟨.hbm, 39, rfl⟩
abbrev main_v32_2 : Ref sig .tc := ⟨.hbm, 40, rfl⟩
abbrev main_v32_3 : Ref sig .tc := ⟨.hbm, 41, rfl⟩
abbrev main_v32_4 : Ref sig .tc := ⟨.hbm, 42, rfl⟩
abbrev main_v32_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v21_scv : Ref sig .scVector := ⟨.hbm, 27, rfl⟩
abbrev main_v24_scv : Ref sig .scVector := ⟨.hbm, 30, rfl⟩
abbrev main_v27_scv : Ref sig .scVector := ⟨.hbm, 33, rfl⟩
abbrev main_v30_scv : Ref sig .scVector := ⟨.hbm, 36, rfl⟩
abbrev main_v31_scv : Ref sig .scVector := ⟨.hbm, 37, rfl⟩
abbrev main_v32_0_scv : Ref sig .scVector := ⟨.hbm, 38, rfl⟩
abbrev main_v32_1_scv : Ref sig .scVector := ⟨.hbm, 39, rfl⟩
abbrev main_v32_2_scv : Ref sig .scVector := ⟨.hbm, 40, rfl⟩
abbrev main_v32_3_scv : Ref sig .scVector := ⟨.hbm, 41, rfl⟩
abbrev main_v32_4_scv : Ref sig .scVector := ⟨.hbm, 42, rfl⟩
abbrev main_v32_5_scv : Ref sig .scVector := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16384_i32 : BitVec 32 := 16384#32
  let v32 : BitVec 32 := Scalar.muli v18 c16384_i32
  ![v32.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2048_i32 : BitVec 32 := 2048#32
  let v19 : BitVec 32 := Scalar.muli v18 c2048_i32
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  let v31 : BitVec 32 := Scalar.addi v19 v30
  ![v31.toNat]

def k1_chk1 (v33 : IVec S16 32) : Prop :=
  (∀ a x, ((![v33] : Fin 1 → IVec S16 32) a x).toNat < S16384.size a) ∧
  (∀ a x, ((![v33] : Fin 1 → IVec S16 32) a x).toNat < S16384.size a) ∧
  (∀ a x, ((![v33] : Fin 1 → IVec S16 32) a x).toNat < S16384.size a) ∧
  (∀ a x, ((![v33] : Fin 1 → IVec S16 32) a x).toNat < S16384.size a)
theorem k1_idx1_inb : ∀ (v33 : IVec S16 32) (k1_hw1 : k1_chk1 v33), ∀ a x, ((![v33] : Fin 1 → IVec S16 32) a x).toNat < S16384.size a := fun v33 k1_hw1 => k1_hw1.1
theorem k1_idx2_inb : ∀ (v33 : IVec S16 32) (k1_hw1 : k1_chk1 v33), ∀ a x, ((![v33] : Fin 1 → IVec S16 32) a x).toNat < S16384.size a := fun v33 k1_hw1 => k1_hw1.2.1
theorem k1_idx3_inb : ∀ (v33 : IVec S16 32) (k1_hw1 : k1_chk1 v33), ∀ a x, ((![v33] : Fin 1 → IVec S16 32) a x).toNat < S16384.size a := fun v33 k1_hw1 => k1_hw1.2.2.1
theorem k1_idx4_inb : ∀ (v33 : IVec S16 32) (k1_hw1 : k1_chk1 v33), ∀ a x, ((![v33] : Fin 1 → IVec S16 32) a x).toNat < S16384.size a := fun v33 k1_hw1 => k1_hw1.2.2.2

def k1_chk2 (v84 : IVec S16 32) : Prop :=
  (∀ a x, ((![v84] : Fin 1 → IVec S16 32) a x).toNat < S16384.size a) ∧
  (∀ a x, ((![v84] : Fin 1 → IVec S16 32) a x).toNat < S16384.size a) ∧
  (∀ a x, ((![v84] : Fin 1 → IVec S16 32) a x).toNat < S16384.size a) ∧
  (∀ a x, ((![v84] : Fin 1 → IVec S16 32) a x).toNat < S16384.size a)
theorem k1_idx5_inb : ∀ (v84 : IVec S16 32) (k1_hw2 : k1_chk2 v84), ∀ a x, ((![v84] : Fin 1 → IVec S16 32) a x).toNat < S16384.size a := fun v84 k1_hw2 => k1_hw2.1
theorem k1_idx6_inb : ∀ (v84 : IVec S16 32) (k1_hw2 : k1_chk2 v84), ∀ a x, ((![v84] : Fin 1 → IVec S16 32) a x).toNat < S16384.size a := fun v84 k1_hw2 => k1_hw2.2.1
theorem k1_idx7_inb : ∀ (v84 : IVec S16 32) (k1_hw2 : k1_chk2 v84), ∀ a x, ((![v84] : Fin 1 → IVec S16 32) a x).toNat < S16384.size a := fun v84 k1_hw2 => k1_hw2.2.2.1
theorem k1_idx8_inb : ∀ (v84 : IVec S16 32) (k1_hw2 : k1_chk2 v84), ∀ a x, ((![v84] : Fin 1 → IVec S16 32) a x).toNat < S16384.size a := fun v84 k1_hw2 => k1_hw2.2.2.2

def k1_chk3 (v135 : IVec S16 32) : Prop :=
  (∀ a x, ((![v135] : Fin 1 → IVec S16 32) a x).toNat < S16384.size a) ∧
  (∀ a x, ((![v135] : Fin 1 → IVec S16 32) a x).toNat < S16384.size a) ∧
  (∀ a x, ((![v135] : Fin 1 → IVec S16 32) a x).toNat < S16384.size a) ∧
  (∀ a x, ((![v135] : Fin 1 → IVec S16 32) a x).toNat < S16384.size a)
theorem k1_idx9_inb : ∀ (v135 : IVec S16 32) (k1_hw3 : k1_chk3 v135), ∀ a x, ((![v135] : Fin 1 → IVec S16 32) a x).toNat < S16384.size a := fun v135 k1_hw3 => k1_hw3.1
theorem k1_idx10_inb : ∀ (v135 : IVec S16 32) (k1_hw3 : k1_chk3 v135), ∀ a x, ((![v135] : Fin 1 → IVec S16 32) a x).toNat < S16384.size a := fun v135 k1_hw3 => k1_hw3.2.1
theorem k1_idx11_inb : ∀ (v135 : IVec S16 32) (k1_hw3 : k1_chk3 v135), ∀ a x, ((![v135] : Fin 1 → IVec S16 32) a x).toNat < S16384.size a := fun v135 k1_hw3 => k1_hw3.2.2.1
theorem k1_idx12_inb : ∀ (v135 : IVec S16 32) (k1_hw3 : k1_chk3 v135), ∀ a x, ((![v135] : Fin 1 → IVec S16 32) a x).toNat < S16384.size a := fun v135 k1_hw3 => k1_hw3.2.2.2

def k1_chk4 (v186 : IVec S16 32) : Prop :=
  (∀ a x, ((![v186] : Fin 1 → IVec S16 32) a x).toNat < S16384.size a) ∧
  (∀ a x, ((![v186] : Fin 1 → IVec S16 32) a x).toNat < S16384.size a) ∧
  (∀ a x, ((![v186] : Fin 1 → IVec S16 32) a x).toNat < S16384.size a) ∧
  (∀ a x, ((![v186] : Fin 1 → IVec S16 32) a x).toNat < S16384.size a)
theorem k1_idx13_inb : ∀ (v186 : IVec S16 32) (k1_hw4 : k1_chk4 v186), ∀ a x, ((![v186] : Fin 1 → IVec S16 32) a x).toNat < S16384.size a := fun v186 k1_hw4 => k1_hw4.1
theorem k1_idx14_inb : ∀ (v186 : IVec S16 32) (k1_hw4 : k1_chk4 v186), ∀ a x, ((![v186] : Fin 1 → IVec S16 32) a x).toNat < S16384.size a := fun v186 k1_hw4 => k1_hw4.2.1
theorem k1_idx15_inb : ∀ (v186 : IVec S16 32) (k1_hw4 : k1_chk4 v186), ∀ a x, ((![v186] : Fin 1 → IVec S16 32) a x).toNat < S16384.size a := fun v186 k1_hw4 => k1_hw4.2.2.1
theorem k1_idx16_inb : ∀ (v186 : IVec S16 32) (k1_hw4 : k1_chk4 v186), ∀ a x, ((![v186] : Fin 1 → IVec S16 32) a x).toNat < S16384.size a := fun v186 k1_hw4 => k1_hw4.2.2.2

def k1_chk5 (v237 : IVec S16 32) : Prop :=
  (∀ a x, ((![v237] : Fin 1 → IVec S16 32) a x).toNat < S16384.size a) ∧
  (∀ a x, ((![v237] : Fin 1 → IVec S16 32) a x).toNat < S16384.size a) ∧
  (∀ a x, ((![v237] : Fin 1 → IVec S16 32) a x).toNat < S16384.size a) ∧
  (∀ a x, ((![v237] : Fin 1 → IVec S16 32) a x).toNat < S16384.size a)
theorem k1_idx17_inb : ∀ (v237 : IVec S16 32) (k1_hw5 : k1_chk5 v237), ∀ a x, ((![v237] : Fin 1 → IVec S16 32) a x).toNat < S16384.size a := fun v237 k1_hw5 => k1_hw5.1
theorem k1_idx18_inb : ∀ (v237 : IVec S16 32) (k1_hw5 : k1_chk5 v237), ∀ a x, ((![v237] : Fin 1 → IVec S16 32) a x).toNat < S16384.size a := fun v237 k1_hw5 => k1_hw5.2.1
theorem k1_idx19_inb : ∀ (v237 : IVec S16 32) (k1_hw5 : k1_chk5 v237), ∀ a x, ((![v237] : Fin 1 → IVec S16 32) a x).toNat < S16384.size a := fun v237 k1_hw5 => k1_hw5.2.2.1
theorem k1_idx20_inb : ∀ (v237 : IVec S16 32) (k1_hw5 : k1_chk5 v237), ∀ a x, ((![v237] : Fin 1 → IVec S16 32) a x).toNat < S16384.size a := fun v237 k1_hw5 => k1_hw5.2.2.2

def k1_chk6 (v288 : IVec S16 32) : Prop :=
  (∀ a x, ((![v288] : Fin 1 → IVec S16 32) a x).toNat < S16384.size a) ∧
  (∀ a x, ((![v288] : Fin 1 → IVec S16 32) a x).toNat < S16384.size a) ∧
  (∀ a x, ((![v288] : Fin 1 → IVec S16 32) a x).toNat < S16384.size a) ∧
  (∀ a x, ((![v288] : Fin 1 → IVec S16 32) a x).toNat < S16384.size a)
theorem k1_idx21_inb : ∀ (v288 : IVec S16 32) (k1_hw6 : k1_chk6 v288), ∀ a x, ((![v288] : Fin 1 → IVec S16 32) a x).toNat < S16384.size a := fun v288 k1_hw6 => k1_hw6.1
theorem k1_idx22_inb : ∀ (v288 : IVec S16 32) (k1_hw6 : k1_chk6 v288), ∀ a x, ((![v288] : Fin 1 → IVec S16 32) a x).toNat < S16384.size a := fun v288 k1_hw6 => k1_hw6.2.1
theorem k1_idx23_inb : ∀ (v288 : IVec S16 32) (k1_hw6 : k1_chk6 v288), ∀ a x, ((![v288] : Fin 1 → IVec S16 32) a x).toNat < S16384.size a := fun v288 k1_hw6 => k1_hw6.2.2.1
theorem k1_idx24_inb : ∀ (v288 : IVec S16 32) (k1_hw6 : k1_chk6 v288), ∀ a x, ((![v288] : Fin 1 → IVec S16 32) a x).toNat < S16384.size a := fun v288 k1_hw6 => k1_hw6.2.2.2

def k1_chk7 (v339 : IVec S16 32) : Prop :=
  (∀ a x, ((![v339] : Fin 1 → IVec S16 32) a x).toNat < S16384.size a) ∧
  (∀ a x, ((![v339] : Fin 1 → IVec S16 32) a x).toNat < S16384.size a) ∧
  (∀ a x, ((![v339] : Fin 1 → IVec S16 32) a x).toNat < S16384.size a) ∧
  (∀ a x, ((![v339] : Fin 1 → IVec S16 32) a x).toNat < S16384.size a)
theorem k1_idx25_inb : ∀ (v339 : IVec S16 32) (k1_hw7 : k1_chk7 v339), ∀ a x, ((![v339] : Fin 1 → IVec S16 32) a x).toNat < S16384.size a := fun v339 k1_hw7 => k1_hw7.1
theorem k1_idx26_inb : ∀ (v339 : IVec S16 32) (k1_hw7 : k1_chk7 v339), ∀ a x, ((![v339] : Fin 1 → IVec S16 32) a x).toNat < S16384.size a := fun v339 k1_hw7 => k1_hw7.2.1
theorem k1_idx27_inb : ∀ (v339 : IVec S16 32) (k1_hw7 : k1_chk7 v339), ∀ a x, ((![v339] : Fin 1 → IVec S16 32) a x).toNat < S16384.size a := fun v339 k1_hw7 => k1_hw7.2.2.1
theorem k1_idx28_inb : ∀ (v339 : IVec S16 32) (k1_hw7 : k1_chk7 v339), ∀ a x, ((![v339] : Fin 1 → IVec S16 32) a x).toNat < S16384.size a := fun v339 k1_hw7 => k1_hw7.2.2.2

def k1_chk8 (v390 : IVec S16 32) : Prop :=
  (∀ a x, ((![v390] : Fin 1 → IVec S16 32) a x).toNat < S16384.size a) ∧
  (∀ a x, ((![v390] : Fin 1 → IVec S16 32) a x).toNat < S16384.size a) ∧
  (∀ a x, ((![v390] : Fin 1 → IVec S16 32) a x).toNat < S16384.size a) ∧
  (∀ a x, ((![v390] : Fin 1 → IVec S16 32) a x).toNat < S16384.size a)
theorem k1_idx29_inb : ∀ (v390 : IVec S16 32) (k1_hw8 : k1_chk8 v390), ∀ a x, ((![v390] : Fin 1 → IVec S16 32) a x).toNat < S16384.size a := fun v390 k1_hw8 => k1_hw8.1
theorem k1_idx30_inb : ∀ (v390 : IVec S16 32) (k1_hw8 : k1_chk8 v390), ∀ a x, ((![v390] : Fin 1 → IVec S16 32) a x).toNat < S16384.size a := fun v390 k1_hw8 => k1_hw8.2.1
theorem k1_idx31_inb : ∀ (v390 : IVec S16 32) (k1_hw8 : k1_chk8 v390), ∀ a x, ((![v390] : Fin 1 → IVec S16 32) a x).toNat < S16384.size a := fun v390 k1_hw8 => k1_hw8.2.2.1
theorem k1_idx32_inb : ∀ (v390 : IVec S16 32) (k1_hw8 : k1_chk8 v390), ∀ a x, ((![v390] : Fin 1 → IVec S16 32) a x).toNat < S16384.size a := fun v390 k1_hw8 => k1_hw8.2.2.2

def k1_chk9 (v441 : IVec S16 32) : Prop :=
  (∀ a x, ((![v441] : Fin 1 → IVec S16 32) a x).toNat < S16384.size a) ∧
  (∀ a x, ((![v441] : Fin 1 → IVec S16 32) a x).toNat < S16384.size a) ∧
  (∀ a x, ((![v441] : Fin 1 → IVec S16 32) a x).toNat < S16384.size a) ∧
  (∀ a x, ((![v441] : Fin 1 → IVec S16 32) a x).toNat < S16384.size a)
theorem k1_idx33_inb : ∀ (v441 : IVec S16 32) (k1_hw9 : k1_chk9 v441), ∀ a x, ((![v441] : Fin 1 → IVec S16 32) a x).toNat < S16384.size a := fun v441 k1_hw9 => k1_hw9.1
theorem k1_idx34_inb : ∀ (v441 : IVec S16 32) (k1_hw9 : k1_chk9 v441), ∀ a x, ((![v441] : Fin 1 → IVec S16 32) a x).toNat < S16384.size a := fun v441 k1_hw9 => k1_hw9.2.1
theorem k1_idx35_inb : ∀ (v441 : IVec S16 32) (k1_hw9 : k1_chk9 v441), ∀ a x, ((![v441] : Fin 1 → IVec S16 32) a x).toNat < S16384.size a := fun v441 k1_hw9 => k1_hw9.2.2.1
theorem k1_idx36_inb : ∀ (v441 : IVec S16 32) (k1_hw9 : k1_chk9 v441), ∀ a x, ((![v441] : Fin 1 → IVec S16 32) a x).toNat < S16384.size a := fun v441 k1_hw9 => k1_hw9.2.2.2

def k1_chk10 (v492 : IVec S16 32) : Prop :=
  (∀ a x, ((![v492] : Fin 1 → IVec S16 32) a x).toNat < S16384.size a) ∧
  (∀ a x, ((![v492] : Fin 1 → IVec S16 32) a x).toNat < S16384.size a) ∧
  (∀ a x, ((![v492] : Fin 1 → IVec S16 32) a x).toNat < S16384.size a) ∧
  (∀ a x, ((![v492] : Fin 1 → IVec S16 32) a x).toNat < S16384.size a)
theorem k1_idx37_inb : ∀ (v492 : IVec S16 32) (k1_hw10 : k1_chk10 v492), ∀ a x, ((![v492] : Fin 1 → IVec S16 32) a x).toNat < S16384.size a := fun v492 k1_hw10 => k1_hw10.1
theorem k1_idx38_inb : ∀ (v492 : IVec S16 32) (k1_hw10 : k1_chk10 v492), ∀ a x, ((![v492] : Fin 1 → IVec S16 32) a x).toNat < S16384.size a := fun v492 k1_hw10 => k1_hw10.2.1
theorem k1_idx39_inb : ∀ (v492 : IVec S16 32) (k1_hw10 : k1_chk10 v492), ∀ a x, ((![v492] : Fin 1 → IVec S16 32) a x).toNat < S16384.size a := fun v492 k1_hw10 => k1_hw10.2.2.1
theorem k1_idx40_inb : ∀ (v492 : IVec S16 32) (k1_hw10 : k1_chk10 v492), ∀ a x, ((![v492] : Fin 1 → IVec S16 32) a x).toNat < S16384.size a := fun v492 k1_hw10 => k1_hw10.2.2.2

def k1_chk11 (v543 : IVec S16 32) : Prop :=
  (∀ a x, ((![v543] : Fin 1 → IVec S16 32) a x).toNat < S16384.size a) ∧
  (∀ a x, ((![v543] : Fin 1 → IVec S16 32) a x).toNat < S16384.size a) ∧
  (∀ a x, ((![v543] : Fin 1 → IVec S16 32) a x).toNat < S16384.size a) ∧
  (∀ a x, ((![v543] : Fin 1 → IVec S16 32) a x).toNat < S16384.size a)
theorem k1_idx41_inb : ∀ (v543 : IVec S16 32) (k1_hw11 : k1_chk11 v543), ∀ a x, ((![v543] : Fin 1 → IVec S16 32) a x).toNat < S16384.size a := fun v543 k1_hw11 => k1_hw11.1
theorem k1_idx42_inb : ∀ (v543 : IVec S16 32) (k1_hw11 : k1_chk11 v543), ∀ a x, ((![v543] : Fin 1 → IVec S16 32) a x).toNat < S16384.size a := fun v543 k1_hw11 => k1_hw11.2.1
theorem k1_idx43_inb : ∀ (v543 : IVec S16 32) (k1_hw11 : k1_chk11 v543), ∀ a x, ((![v543] : Fin 1 → IVec S16 32) a x).toNat < S16384.size a := fun v543 k1_hw11 => k1_hw11.2.2.1
theorem k1_idx44_inb : ∀ (v543 : IVec S16 32) (k1_hw11 : k1_chk11 v543), ∀ a x, ((![v543] : Fin 1 → IVec S16 32) a x).toNat < S16384.size a := fun v543 k1_hw11 => k1_hw11.2.2.2

def k1_chk12 (v594 : IVec S16 32) : Prop :=
  (∀ a x, ((![v594] : Fin 1 → IVec S16 32) a x).toNat < S16384.size a) ∧
  (∀ a x, ((![v594] : Fin 1 → IVec S16 32) a x).toNat < S16384.size a) ∧
  (∀ a x, ((![v594] : Fin 1 → IVec S16 32) a x).toNat < S16384.size a) ∧
  (∀ a x, ((![v594] : Fin 1 → IVec S16 32) a x).toNat < S16384.size a)
theorem k1_idx45_inb : ∀ (v594 : IVec S16 32) (k1_hw12 : k1_chk12 v594), ∀ a x, ((![v594] : Fin 1 → IVec S16 32) a x).toNat < S16384.size a := fun v594 k1_hw12 => k1_hw12.1
theorem k1_idx46_inb : ∀ (v594 : IVec S16 32) (k1_hw12 : k1_chk12 v594), ∀ a x, ((![v594] : Fin 1 → IVec S16 32) a x).toNat < S16384.size a := fun v594 k1_hw12 => k1_hw12.2.1
theorem k1_idx47_inb : ∀ (v594 : IVec S16 32) (k1_hw12 : k1_chk12 v594), ∀ a x, ((![v594] : Fin 1 → IVec S16 32) a x).toNat < S16384.size a := fun v594 k1_hw12 => k1_hw12.2.2.1
theorem k1_idx48_inb : ∀ (v594 : IVec S16 32) (k1_hw12 : k1_chk12 v594), ∀ a x, ((![v594] : Fin 1 → IVec S16 32) a x).toNat < S16384.size a := fun v594 k1_hw12 => k1_hw12.2.2.2

def k1_chk13 (v645 : IVec S16 32) : Prop :=
  (∀ a x, ((![v645] : Fin 1 → IVec S16 32) a x).toNat < S16384.size a) ∧
  (∀ a x, ((![v645] : Fin 1 → IVec S16 32) a x).toNat < S16384.size a) ∧
  (∀ a x, ((![v645] : Fin 1 → IVec S16 32) a x).toNat < S16384.size a) ∧
  (∀ a x, ((![v645] : Fin 1 → IVec S16 32) a x).toNat < S16384.size a)
theorem k1_idx49_inb : ∀ (v645 : IVec S16 32) (k1_hw13 : k1_chk13 v645), ∀ a x, ((![v645] : Fin 1 → IVec S16 32) a x).toNat < S16384.size a := fun v645 k1_hw13 => k1_hw13.1
theorem k1_idx50_inb : ∀ (v645 : IVec S16 32) (k1_hw13 : k1_chk13 v645), ∀ a x, ((![v645] : Fin 1 → IVec S16 32) a x).toNat < S16384.size a := fun v645 k1_hw13 => k1_hw13.2.1
theorem k1_idx51_inb : ∀ (v645 : IVec S16 32) (k1_hw13 : k1_chk13 v645), ∀ a x, ((![v645] : Fin 1 → IVec S16 32) a x).toNat < S16384.size a := fun v645 k1_hw13 => k1_hw13.2.2.1
theorem k1_idx52_inb : ∀ (v645 : IVec S16 32) (k1_hw13 : k1_chk13 v645), ∀ a x, ((![v645] : Fin 1 → IVec S16 32) a x).toNat < S16384.size a := fun v645 k1_hw13 => k1_hw13.2.2.2

def k1_chk14 (v696 : IVec S16 32) : Prop :=
  (∀ a x, ((![v696] : Fin 1 → IVec S16 32) a x).toNat < S16384.size a) ∧
  (∀ a x, ((![v696] : Fin 1 → IVec S16 32) a x).toNat < S16384.size a) ∧
  (∀ a x, ((![v696] : Fin 1 → IVec S16 32) a x).toNat < S16384.size a) ∧
  (∀ a x, ((![v696] : Fin 1 → IVec S16 32) a x).toNat < S16384.size a)
theorem k1_idx53_inb : ∀ (v696 : IVec S16 32) (k1_hw14 : k1_chk14 v696), ∀ a x, ((![v696] : Fin 1 → IVec S16 32) a x).toNat < S16384.size a := fun v696 k1_hw14 => k1_hw14.1
theorem k1_idx54_inb : ∀ (v696 : IVec S16 32) (k1_hw14 : k1_chk14 v696), ∀ a x, ((![v696] : Fin 1 → IVec S16 32) a x).toNat < S16384.size a := fun v696 k1_hw14 => k1_hw14.2.1
theorem k1_idx55_inb : ∀ (v696 : IVec S16 32) (k1_hw14 : k1_chk14 v696), ∀ a x, ((![v696] : Fin 1 → IVec S16 32) a x).toNat < S16384.size a := fun v696 k1_hw14 => k1_hw14.2.2.1
theorem k1_idx56_inb : ∀ (v696 : IVec S16 32) (k1_hw14 : k1_chk14 v696), ∀ a x, ((![v696] : Fin 1 → IVec S16 32) a x).toNat < S16384.size a := fun v696 k1_hw14 => k1_hw14.2.2.2

def k1_chk15 (v747 : IVec S16 32) : Prop :=
  (∀ a x, ((![v747] : Fin 1 → IVec S16 32) a x).toNat < S16384.size a) ∧
  (∀ a x, ((![v747] : Fin 1 → IVec S16 32) a x).toNat < S16384.size a) ∧
  (∀ a x, ((![v747] : Fin 1 → IVec S16 32) a x).toNat < S16384.size a) ∧
  (∀ a x, ((![v747] : Fin 1 → IVec S16 32) a x).toNat < S16384.size a)
theorem k1_idx57_inb : ∀ (v747 : IVec S16 32) (k1_hw15 : k1_chk15 v747), ∀ a x, ((![v747] : Fin 1 → IVec S16 32) a x).toNat < S16384.size a := fun v747 k1_hw15 => k1_hw15.1
theorem k1_idx58_inb : ∀ (v747 : IVec S16 32) (k1_hw15 : k1_chk15 v747), ∀ a x, ((![v747] : Fin 1 → IVec S16 32) a x).toNat < S16384.size a := fun v747 k1_hw15 => k1_hw15.2.1
theorem k1_idx59_inb : ∀ (v747 : IVec S16 32) (k1_hw15 : k1_chk15 v747), ∀ a x, ((![v747] : Fin 1 → IVec S16 32) a x).toNat < S16384.size a := fun v747 k1_hw15 => k1_hw15.2.2.1
theorem k1_idx60_inb : ∀ (v747 : IVec S16 32) (k1_hw15 : k1_chk15 v747), ∀ a x, ((![v747] : Fin 1 → IVec S16 32) a x).toNat < S16384.size a := fun v747 k1_hw15 => k1_hw15.2.2.2

def k1_chk16 (v798 : IVec S16 32) : Prop :=
  (∀ a x, ((![v798] : Fin 1 → IVec S16 32) a x).toNat < S16384.size a) ∧
  (∀ a x, ((![v798] : Fin 1 → IVec S16 32) a x).toNat < S16384.size a) ∧
  (∀ a x, ((![v798] : Fin 1 → IVec S16 32) a x).toNat < S16384.size a) ∧
  (∀ a x, ((![v798] : Fin 1 → IVec S16 32) a x).toNat < S16384.size a)
theorem k1_idx61_inb : ∀ (v798 : IVec S16 32) (k1_hw16 : k1_chk16 v798), ∀ a x, ((![v798] : Fin 1 → IVec S16 32) a x).toNat < S16384.size a := fun v798 k1_hw16 => k1_hw16.1
theorem k1_idx62_inb : ∀ (v798 : IVec S16 32) (k1_hw16 : k1_chk16 v798), ∀ a x, ((![v798] : Fin 1 → IVec S16 32) a x).toNat < S16384.size a := fun v798 k1_hw16 => k1_hw16.2.1
theorem k1_idx63_inb : ∀ (v798 : IVec S16 32) (k1_hw16 : k1_chk16 v798), ∀ a x, ((![v798] : Fin 1 → IVec S16 32) a x).toNat < S16384.size a := fun v798 k1_hw16 => k1_hw16.2.2.1
theorem k1_idx64_inb : ∀ (v798 : IVec S16 32) (k1_hw16 : k1_chk16 v798), ∀ a x, ((![v798] : Fin 1 → IVec S16 32) a x).toNat < S16384.size a := fun v798 k1_hw16 => k1_hw16.2.2.2

def k1_chk17 (v849 : IVec S16 32) : Prop :=
  (∀ a x, ((![v849] : Fin 1 → IVec S16 32) a x).toNat < S16384.size a) ∧
  (∀ a x, ((![v849] : Fin 1 → IVec S16 32) a x).toNat < S16384.size a) ∧
  (∀ a x, ((![v849] : Fin 1 → IVec S16 32) a x).toNat < S16384.size a) ∧
  (∀ a x, ((![v849] : Fin 1 → IVec S16 32) a x).toNat < S16384.size a)
theorem k1_idx65_inb : ∀ (v849 : IVec S16 32) (k1_hw17 : k1_chk17 v849), ∀ a x, ((![v849] : Fin 1 → IVec S16 32) a x).toNat < S16384.size a := fun v849 k1_hw17 => k1_hw17.1
theorem k1_idx66_inb : ∀ (v849 : IVec S16 32) (k1_hw17 : k1_chk17 v849), ∀ a x, ((![v849] : Fin 1 → IVec S16 32) a x).toNat < S16384.size a := fun v849 k1_hw17 => k1_hw17.2.1
theorem k1_idx67_inb : ∀ (v849 : IVec S16 32) (k1_hw17 : k1_chk17 v849), ∀ a x, ((![v849] : Fin 1 → IVec S16 32) a x).toNat < S16384.size a := fun v849 k1_hw17 => k1_hw17.2.2.1
theorem k1_idx68_inb : ∀ (v849 : IVec S16 32) (k1_hw17 : k1_chk17 v849), ∀ a x, ((![v849] : Fin 1 → IVec S16 32) a x).toNat < S16384.size a := fun v849 k1_hw17 => k1_hw17.2.2.2

def k1_chk18 (v900 : IVec S16 32) : Prop :=
  (∀ a x, ((![v900] : Fin 1 → IVec S16 32) a x).toNat < S16384.size a) ∧
  (∀ a x, ((![v900] : Fin 1 → IVec S16 32) a x).toNat < S16384.size a) ∧
  (∀ a x, ((![v900] : Fin 1 → IVec S16 32) a x).toNat < S16384.size a) ∧
  (∀ a x, ((![v900] : Fin 1 → IVec S16 32) a x).toNat < S16384.size a)
theorem k1_idx69_inb : ∀ (v900 : IVec S16 32) (k1_hw18 : k1_chk18 v900), ∀ a x, ((![v900] : Fin 1 → IVec S16 32) a x).toNat < S16384.size a := fun v900 k1_hw18 => k1_hw18.1
theorem k1_idx70_inb : ∀ (v900 : IVec S16 32) (k1_hw18 : k1_chk18 v900), ∀ a x, ((![v900] : Fin 1 → IVec S16 32) a x).toNat < S16384.size a := fun v900 k1_hw18 => k1_hw18.2.1
theorem k1_idx71_inb : ∀ (v900 : IVec S16 32) (k1_hw18 : k1_chk18 v900), ∀ a x, ((![v900] : Fin 1 → IVec S16 32) a x).toNat < S16384.size a := fun v900 k1_hw18 => k1_hw18.2.2.1
theorem k1_idx72_inb : ∀ (v900 : IVec S16 32) (k1_hw18 : k1_chk18 v900), ∀ a x, ((![v900] : Fin 1 → IVec S16 32) a x).toNat < S16384.size a := fun v900 k1_hw18 => k1_hw18.2.2.2

def k1_chk19 (v951 : IVec S16 32) : Prop :=
  (∀ a x, ((![v951] : Fin 1 → IVec S16 32) a x).toNat < S16384.size a) ∧
  (∀ a x, ((![v951] : Fin 1 → IVec S16 32) a x).toNat < S16384.size a) ∧
  (∀ a x, ((![v951] : Fin 1 → IVec S16 32) a x).toNat < S16384.size a) ∧
  (∀ a x, ((![v951] : Fin 1 → IVec S16 32) a x).toNat < S16384.size a)
theorem k1_idx73_inb : ∀ (v951 : IVec S16 32) (k1_hw19 : k1_chk19 v951), ∀ a x, ((![v951] : Fin 1 → IVec S16 32) a x).toNat < S16384.size a := fun v951 k1_hw19 => k1_hw19.1
theorem k1_idx74_inb : ∀ (v951 : IVec S16 32) (k1_hw19 : k1_chk19 v951), ∀ a x, ((![v951] : Fin 1 → IVec S16 32) a x).toNat < S16384.size a := fun v951 k1_hw19 => k1_hw19.2.1
theorem k1_idx75_inb : ∀ (v951 : IVec S16 32) (k1_hw19 : k1_chk19 v951), ∀ a x, ((![v951] : Fin 1 → IVec S16 32) a x).toNat < S16384.size a := fun v951 k1_hw19 => k1_hw19.2.2.1
theorem k1_idx76_inb : ∀ (v951 : IVec S16 32) (k1_hw19 : k1_chk19 v951), ∀ a x, ((![v951] : Fin 1 → IVec S16 32) a x).toNat < S16384.size a := fun v951 k1_hw19 => k1_hw19.2.2.2

def k1_chk20 (v1002 : IVec S16 32) : Prop :=
  (∀ a x, ((![v1002] : Fin 1 → IVec S16 32) a x).toNat < S16384.size a) ∧
  (∀ a x, ((![v1002] : Fin 1 → IVec S16 32) a x).toNat < S16384.size a) ∧
  (∀ a x, ((![v1002] : Fin 1 → IVec S16 32) a x).toNat < S16384.size a) ∧
  (∀ a x, ((![v1002] : Fin 1 → IVec S16 32) a x).toNat < S16384.size a)
theorem k1_idx77_inb : ∀ (v1002 : IVec S16 32) (k1_hw20 : k1_chk20 v1002), ∀ a x, ((![v1002] : Fin 1 → IVec S16 32) a x).toNat < S16384.size a := fun v1002 k1_hw20 => k1_hw20.1
theorem k1_idx78_inb : ∀ (v1002 : IVec S16 32) (k1_hw20 : k1_chk20 v1002), ∀ a x, ((![v1002] : Fin 1 → IVec S16 32) a x).toNat < S16384.size a := fun v1002 k1_hw20 => k1_hw20.2.1
theorem k1_idx79_inb : ∀ (v1002 : IVec S16 32) (k1_hw20 : k1_chk20 v1002), ∀ a x, ((![v1002] : Fin 1 → IVec S16 32) a x).toNat < S16384.size a := fun v1002 k1_hw20 => k1_hw20.2.2.1
theorem k1_idx80_inb : ∀ (v1002 : IVec S16 32) (k1_hw20 : k1_chk20 v1002), ∀ a x, ((![v1002] : Fin 1 → IVec S16 32) a x).toNat < S16384.size a := fun v1002 k1_hw20 => k1_hw20.2.2.2

def k1_chk21 (v1053 : IVec S16 32) : Prop :=
  (∀ a x, ((![v1053] : Fin 1 → IVec S16 32) a x).toNat < S16384.size a) ∧
  (∀ a x, ((![v1053] : Fin 1 → IVec S16 32) a x).toNat < S16384.size a) ∧
  (∀ a x, ((![v1053] : Fin 1 → IVec S16 32) a x).toNat < S16384.size a) ∧
  (∀ a x, ((![v1053] : Fin 1 → IVec S16 32) a x).toNat < S16384.size a)
theorem k1_idx81_inb : ∀ (v1053 : IVec S16 32) (k1_hw21 : k1_chk21 v1053), ∀ a x, ((![v1053] : Fin 1 → IVec S16 32) a x).toNat < S16384.size a := fun v1053 k1_hw21 => k1_hw21.1
theorem k1_idx82_inb : ∀ (v1053 : IVec S16 32) (k1_hw21 : k1_chk21 v1053), ∀ a x, ((![v1053] : Fin 1 → IVec S16 32) a x).toNat < S16384.size a := fun v1053 k1_hw21 => k1_hw21.2.1
theorem k1_idx83_inb : ∀ (v1053 : IVec S16 32) (k1_hw21 : k1_chk21 v1053), ∀ a x, ((![v1053] : Fin 1 → IVec S16 32) a x).toNat < S16384.size a := fun v1053 k1_hw21 => k1_hw21.2.2.1
theorem k1_idx84_inb : ∀ (v1053 : IVec S16 32) (k1_hw21 : k1_chk21 v1053), ∀ a x, ((![v1053] : Fin 1 → IVec S16 32) a x).toNat < S16384.size a := fun v1053 k1_hw21 => k1_hw21.2.2.2

def k1_chk22 (v1104 : IVec S16 32) : Prop :=
  (∀ a x, ((![v1104] : Fin 1 → IVec S16 32) a x).toNat < S16384.size a) ∧
  (∀ a x, ((![v1104] : Fin 1 → IVec S16 32) a x).toNat < S16384.size a) ∧
  (∀ a x, ((![v1104] : Fin 1 → IVec S16 32) a x).toNat < S16384.size a) ∧
  (∀ a x, ((![v1104] : Fin 1 → IVec S16 32) a x).toNat < S16384.size a)
theorem k1_idx85_inb : ∀ (v1104 : IVec S16 32) (k1_hw22 : k1_chk22 v1104), ∀ a x, ((![v1104] : Fin 1 → IVec S16 32) a x).toNat < S16384.size a := fun v1104 k1_hw22 => k1_hw22.1
theorem k1_idx86_inb : ∀ (v1104 : IVec S16 32) (k1_hw22 : k1_chk22 v1104), ∀ a x, ((![v1104] : Fin 1 → IVec S16 32) a x).toNat < S16384.size a := fun v1104 k1_hw22 => k1_hw22.2.1
theorem k1_idx87_inb : ∀ (v1104 : IVec S16 32) (k1_hw22 : k1_chk22 v1104), ∀ a x, ((![v1104] : Fin 1 → IVec S16 32) a x).toNat < S16384.size a := fun v1104 k1_hw22 => k1_hw22.2.2.1
theorem k1_idx88_inb : ∀ (v1104 : IVec S16 32) (k1_hw22 : k1_chk22 v1104), ∀ a x, ((![v1104] : Fin 1 → IVec S16 32) a x).toNat < S16384.size a := fun v1104 k1_hw22 => k1_hw22.2.2.2

def k1_chk23 (v1155 : IVec S16 32) : Prop :=
  (∀ a x, ((![v1155] : Fin 1 → IVec S16 32) a x).toNat < S16384.size a) ∧
  (∀ a x, ((![v1155] : Fin 1 → IVec S16 32) a x).toNat < S16384.size a) ∧
  (∀ a x, ((![v1155] : Fin 1 → IVec S16 32) a x).toNat < S16384.size a) ∧
  (∀ a x, ((![v1155] : Fin 1 → IVec S16 32) a x).toNat < S16384.size a)
theorem k1_idx89_inb : ∀ (v1155 : IVec S16 32) (k1_hw23 : k1_chk23 v1155), ∀ a x, ((![v1155] : Fin 1 → IVec S16 32) a x).toNat < S16384.size a := fun v1155 k1_hw23 => k1_hw23.1
theorem k1_idx90_inb : ∀ (v1155 : IVec S16 32) (k1_hw23 : k1_chk23 v1155), ∀ a x, ((![v1155] : Fin 1 → IVec S16 32) a x).toNat < S16384.size a := fun v1155 k1_hw23 => k1_hw23.2.1
theorem k1_idx91_inb : ∀ (v1155 : IVec S16 32) (k1_hw23 : k1_chk23 v1155), ∀ a x, ((![v1155] : Fin 1 → IVec S16 32) a x).toNat < S16384.size a := fun v1155 k1_hw23 => k1_hw23.2.2.1
theorem k1_idx92_inb : ∀ (v1155 : IVec S16 32) (k1_hw23 : k1_chk23 v1155), ∀ a x, ((![v1155] : Fin 1 → IVec S16 32) a x).toNat < S16384.size a := fun v1155 k1_hw23 => k1_hw23.2.2.2

def k1_chk24 (v1206 : IVec S16 32) : Prop :=
  (∀ a x, ((![v1206] : Fin 1 → IVec S16 32) a x).toNat < S16384.size a) ∧
  (∀ a x, ((![v1206] : Fin 1 → IVec S16 32) a x).toNat < S16384.size a) ∧
  (∀ a x, ((![v1206] : Fin 1 → IVec S16 32) a x).toNat < S16384.size a) ∧
  (∀ a x, ((![v1206] : Fin 1 → IVec S16 32) a x).toNat < S16384.size a)
theorem k1_idx93_inb : ∀ (v1206 : IVec S16 32) (k1_hw24 : k1_chk24 v1206), ∀ a x, ((![v1206] : Fin 1 → IVec S16 32) a x).toNat < S16384.size a := fun v1206 k1_hw24 => k1_hw24.1
theorem k1_idx94_inb : ∀ (v1206 : IVec S16 32) (k1_hw24 : k1_chk24 v1206), ∀ a x, ((![v1206] : Fin 1 → IVec S16 32) a x).toNat < S16384.size a := fun v1206 k1_hw24 => k1_hw24.2.1
theorem k1_idx95_inb : ∀ (v1206 : IVec S16 32) (k1_hw24 : k1_chk24 v1206), ∀ a x, ((![v1206] : Fin 1 → IVec S16 32) a x).toNat < S16384.size a := fun v1206 k1_hw24 => k1_hw24.2.2.1
theorem k1_idx96_inb : ∀ (v1206 : IVec S16 32) (k1_hw24 : k1_chk24 v1206), ∀ a x, ((![v1206] : Fin 1 → IVec S16 32) a x).toNat < S16384.size a := fun v1206 k1_hw24 => k1_hw24.2.2.2

def k1_chk25 (v1257 : IVec S16 32) : Prop :=
  (∀ a x, ((![v1257] : Fin 1 → IVec S16 32) a x).toNat < S16384.size a) ∧
  (∀ a x, ((![v1257] : Fin 1 → IVec S16 32) a x).toNat < S16384.size a) ∧
  (∀ a x, ((![v1257] : Fin 1 → IVec S16 32) a x).toNat < S16384.size a) ∧
  (∀ a x, ((![v1257] : Fin 1 → IVec S16 32) a x).toNat < S16384.size a)
theorem k1_idx97_inb : ∀ (v1257 : IVec S16 32) (k1_hw25 : k1_chk25 v1257), ∀ a x, ((![v1257] : Fin 1 → IVec S16 32) a x).toNat < S16384.size a := fun v1257 k1_hw25 => k1_hw25.1
theorem k1_idx98_inb : ∀ (v1257 : IVec S16 32) (k1_hw25 : k1_chk25 v1257), ∀ a x, ((![v1257] : Fin 1 → IVec S16 32) a x).toNat < S16384.size a := fun v1257 k1_hw25 => k1_hw25.2.1
theorem k1_idx99_inb : ∀ (v1257 : IVec S16 32) (k1_hw25 : k1_chk25 v1257), ∀ a x, ((![v1257] : Fin 1 → IVec S16 32) a x).toNat < S16384.size a := fun v1257 k1_hw25 => k1_hw25.2.2.1
theorem k1_idx100_inb : ∀ (v1257 : IVec S16 32) (k1_hw25 : k1_chk25 v1257), ∀ a x, ((![v1257] : Fin 1 → IVec S16 32) a x).toNat < S16384.size a := fun v1257 k1_hw25 => k1_hw25.2.2.2

def k1_chk26 (v1308 : IVec S16 32) : Prop :=
  (∀ a x, ((![v1308] : Fin 1 → IVec S16 32) a x).toNat < S16384.size a) ∧
  (∀ a x, ((![v1308] : Fin 1 → IVec S16 32) a x).toNat < S16384.size a) ∧
  (∀ a x, ((![v1308] : Fin 1 → IVec S16 32) a x).toNat < S16384.size a) ∧
  (∀ a x, ((![v1308] : Fin 1 → IVec S16 32) a x).toNat < S16384.size a)
theorem k1_idx101_inb : ∀ (v1308 : IVec S16 32) (k1_hw26 : k1_chk26 v1308), ∀ a x, ((![v1308] : Fin 1 → IVec S16 32) a x).toNat < S16384.size a := fun v1308 k1_hw26 => k1_hw26.1
theorem k1_idx102_inb : ∀ (v1308 : IVec S16 32) (k1_hw26 : k1_chk26 v1308), ∀ a x, ((![v1308] : Fin 1 → IVec S16 32) a x).toNat < S16384.size a := fun v1308 k1_hw26 => k1_hw26.2.1
theorem k1_idx103_inb : ∀ (v1308 : IVec S16 32) (k1_hw26 : k1_chk26 v1308), ∀ a x, ((![v1308] : Fin 1 → IVec S16 32) a x).toNat < S16384.size a := fun v1308 k1_hw26 => k1_hw26.2.2.1
theorem k1_idx104_inb : ∀ (v1308 : IVec S16 32) (k1_hw26 : k1_chk26 v1308), ∀ a x, ((![v1308] : Fin 1 → IVec S16 32) a x).toNat < S16384.size a := fun v1308 k1_hw26 => k1_hw26.2.2.2

def k1_chk27 (v1359 : IVec S16 32) : Prop :=
  (∀ a x, ((![v1359] : Fin 1 → IVec S16 32) a x).toNat < S16384.size a) ∧
  (∀ a x, ((![v1359] : Fin 1 → IVec S16 32) a x).toNat < S16384.size a) ∧
  (∀ a x, ((![v1359] : Fin 1 → IVec S16 32) a x).toNat < S16384.size a) ∧
  (∀ a x, ((![v1359] : Fin 1 → IVec S16 32) a x).toNat < S16384.size a)
theorem k1_idx105_inb : ∀ (v1359 : IVec S16 32) (k1_hw27 : k1_chk27 v1359), ∀ a x, ((![v1359] : Fin 1 → IVec S16 32) a x).toNat < S16384.size a := fun v1359 k1_hw27 => k1_hw27.1
theorem k1_idx106_inb : ∀ (v1359 : IVec S16 32) (k1_hw27 : k1_chk27 v1359), ∀ a x, ((![v1359] : Fin 1 → IVec S16 32) a x).toNat < S16384.size a := fun v1359 k1_hw27 => k1_hw27.2.1
theorem k1_idx107_inb : ∀ (v1359 : IVec S16 32) (k1_hw27 : k1_chk27 v1359), ∀ a x, ((![v1359] : Fin 1 → IVec S16 32) a x).toNat < S16384.size a := fun v1359 k1_hw27 => k1_hw27.2.2.1
theorem k1_idx108_inb : ∀ (v1359 : IVec S16 32) (k1_hw27 : k1_chk27 v1359), ∀ a x, ((![v1359] : Fin 1 → IVec S16 32) a x).toNat < S16384.size a := fun v1359 k1_hw27 => k1_hw27.2.2.2

def k1_chk28 (v1410 : IVec S16 32) : Prop :=
  (∀ a x, ((![v1410] : Fin 1 → IVec S16 32) a x).toNat < S16384.size a) ∧
  (∀ a x, ((![v1410] : Fin 1 → IVec S16 32) a x).toNat < S16384.size a) ∧
  (∀ a x, ((![v1410] : Fin 1 → IVec S16 32) a x).toNat < S16384.size a) ∧
  (∀ a x, ((![v1410] : Fin 1 → IVec S16 32) a x).toNat < S16384.size a)
theorem k1_idx109_inb : ∀ (v1410 : IVec S16 32) (k1_hw28 : k1_chk28 v1410), ∀ a x, ((![v1410] : Fin 1 → IVec S16 32) a x).toNat < S16384.size a := fun v1410 k1_hw28 => k1_hw28.1
theorem k1_idx110_inb : ∀ (v1410 : IVec S16 32) (k1_hw28 : k1_chk28 v1410), ∀ a x, ((![v1410] : Fin 1 → IVec S16 32) a x).toNat < S16384.size a := fun v1410 k1_hw28 => k1_hw28.2.1
theorem k1_idx111_inb : ∀ (v1410 : IVec S16 32) (k1_hw28 : k1_chk28 v1410), ∀ a x, ((![v1410] : Fin 1 → IVec S16 32) a x).toNat < S16384.size a := fun v1410 k1_hw28 => k1_hw28.2.2.1
theorem k1_idx112_inb : ∀ (v1410 : IVec S16 32) (k1_hw28 : k1_chk28 v1410), ∀ a x, ((![v1410] : Fin 1 → IVec S16 32) a x).toNat < S16384.size a := fun v1410 k1_hw28 => k1_hw28.2.2.2

def k1_chk29 (v1461 : IVec S16 32) : Prop :=
  (∀ a x, ((![v1461] : Fin 1 → IVec S16 32) a x).toNat < S16384.size a) ∧
  (∀ a x, ((![v1461] : Fin 1 → IVec S16 32) a x).toNat < S16384.size a) ∧
  (∀ a x, ((![v1461] : Fin 1 → IVec S16 32) a x).toNat < S16384.size a) ∧
  (∀ a x, ((![v1461] : Fin 1 → IVec S16 32) a x).toNat < S16384.size a)
theorem k1_idx113_inb : ∀ (v1461 : IVec S16 32) (k1_hw29 : k1_chk29 v1461), ∀ a x, ((![v1461] : Fin 1 → IVec S16 32) a x).toNat < S16384.size a := fun v1461 k1_hw29 => k1_hw29.1
theorem k1_idx114_inb : ∀ (v1461 : IVec S16 32) (k1_hw29 : k1_chk29 v1461), ∀ a x, ((![v1461] : Fin 1 → IVec S16 32) a x).toNat < S16384.size a := fun v1461 k1_hw29 => k1_hw29.2.1
theorem k1_idx115_inb : ∀ (v1461 : IVec S16 32) (k1_hw29 : k1_chk29 v1461), ∀ a x, ((![v1461] : Fin 1 → IVec S16 32) a x).toNat < S16384.size a := fun v1461 k1_hw29 => k1_hw29.2.2.1
theorem k1_idx116_inb : ∀ (v1461 : IVec S16 32) (k1_hw29 : k1_chk29 v1461), ∀ a x, ((![v1461] : Fin 1 → IVec S16 32) a x).toNat < S16384.size a := fun v1461 k1_hw29 => k1_hw29.2.2.2

def k1_chk30 (v1512 : IVec S16 32) : Prop :=
  (∀ a x, ((![v1512] : Fin 1 → IVec S16 32) a x).toNat < S16384.size a) ∧
  (∀ a x, ((![v1512] : Fin 1 → IVec S16 32) a x).toNat < S16384.size a) ∧
  (∀ a x, ((![v1512] : Fin 1 → IVec S16 32) a x).toNat < S16384.size a) ∧
  (∀ a x, ((![v1512] : Fin 1 → IVec S16 32) a x).toNat < S16384.size a)
theorem k1_idx117_inb : ∀ (v1512 : IVec S16 32) (k1_hw30 : k1_chk30 v1512), ∀ a x, ((![v1512] : Fin 1 → IVec S16 32) a x).toNat < S16384.size a := fun v1512 k1_hw30 => k1_hw30.1
theorem k1_idx118_inb : ∀ (v1512 : IVec S16 32) (k1_hw30 : k1_chk30 v1512), ∀ a x, ((![v1512] : Fin 1 → IVec S16 32) a x).toNat < S16384.size a := fun v1512 k1_hw30 => k1_hw30.2.1
theorem k1_idx119_inb : ∀ (v1512 : IVec S16 32) (k1_hw30 : k1_chk30 v1512), ∀ a x, ((![v1512] : Fin 1 → IVec S16 32) a x).toNat < S16384.size a := fun v1512 k1_hw30 => k1_hw30.2.2.1
theorem k1_idx120_inb : ∀ (v1512 : IVec S16 32) (k1_hw30 : k1_chk30 v1512), ∀ a x, ((![v1512] : Fin 1 → IVec S16 32) a x).toNat < S16384.size a := fun v1512 k1_hw30 => k1_hw30.2.2.2

def k1_chk31 (v1563 : IVec S16 32) : Prop :=
  (∀ a x, ((![v1563] : Fin 1 → IVec S16 32) a x).toNat < S16384.size a) ∧
  (∀ a x, ((![v1563] : Fin 1 → IVec S16 32) a x).toNat < S16384.size a) ∧
  (∀ a x, ((![v1563] : Fin 1 → IVec S16 32) a x).toNat < S16384.size a) ∧
  (∀ a x, ((![v1563] : Fin 1 → IVec S16 32) a x).toNat < S16384.size a)
theorem k1_idx121_inb : ∀ (v1563 : IVec S16 32) (k1_hw31 : k1_chk31 v1563), ∀ a x, ((![v1563] : Fin 1 → IVec S16 32) a x).toNat < S16384.size a := fun v1563 k1_hw31 => k1_hw31.1
theorem k1_idx122_inb : ∀ (v1563 : IVec S16 32) (k1_hw31 : k1_chk31 v1563), ∀ a x, ((![v1563] : Fin 1 → IVec S16 32) a x).toNat < S16384.size a := fun v1563 k1_hw31 => k1_hw31.2.1
theorem k1_idx123_inb : ∀ (v1563 : IVec S16 32) (k1_hw31 : k1_chk31 v1563), ∀ a x, ((![v1563] : Fin 1 → IVec S16 32) a x).toNat < S16384.size a := fun v1563 k1_hw31 => k1_hw31.2.2.1
theorem k1_idx124_inb : ∀ (v1563 : IVec S16 32) (k1_hw31 : k1_chk31 v1563), ∀ a x, ((![v1563] : Fin 1 → IVec S16 32) a x).toNat < S16384.size a := fun v1563 k1_hw31 => k1_hw31.2.2.2

def k1_chk32 (v1614 : IVec S16 32) : Prop :=
  (∀ a x, ((![v1614] : Fin 1 → IVec S16 32) a x).toNat < S16384.size a) ∧
  (∀ a x, ((![v1614] : Fin 1 → IVec S16 32) a x).toNat < S16384.size a) ∧
  (∀ a x, ((![v1614] : Fin 1 → IVec S16 32) a x).toNat < S16384.size a) ∧
  (∀ a x, ((![v1614] : Fin 1 → IVec S16 32) a x).toNat < S16384.size a)
theorem k1_idx125_inb : ∀ (v1614 : IVec S16 32) (k1_hw32 : k1_chk32 v1614), ∀ a x, ((![v1614] : Fin 1 → IVec S16 32) a x).toNat < S16384.size a := fun v1614 k1_hw32 => k1_hw32.1
theorem k1_idx126_inb : ∀ (v1614 : IVec S16 32) (k1_hw32 : k1_chk32 v1614), ∀ a x, ((![v1614] : Fin 1 → IVec S16 32) a x).toNat < S16384.size a := fun v1614 k1_hw32 => k1_hw32.2.1
theorem k1_idx127_inb : ∀ (v1614 : IVec S16 32) (k1_hw32 : k1_chk32 v1614), ∀ a x, ((![v1614] : Fin 1 → IVec S16 32) a x).toNat < S16384.size a := fun v1614 k1_hw32 => k1_hw32.2.2.1
theorem k1_idx128_inb : ∀ (v1614 : IVec S16 32) (k1_hw32 : k1_chk32 v1614), ∀ a x, ((![v1614] : Fin 1 → IVec S16 32) a x).toNat < S16384.size a := fun v1614 k1_hw32 => k1_hw32.2.2.2
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2048_i32 : BitVec 32 := 2048#32
  let v19 : BitVec 32 := Scalar.muli v18 c2048_i32
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  let v31 : BitVec 32 := Scalar.addi v19 v30
  ![v31.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x128x128x3 : Shape := ⟨4, ![8, 128, 128, 3]⟩
abbrev S8x128x128 : Shape := ⟨3, ![8, 128, 128]⟩
abbrev S8x16384x3 : Shape := ⟨3, ![8, 16384, 3]⟩
abbrev S8x16384 : Shape := ⟨2, ![8, 16384]⟩
abbrev S1x16384 : Shape := ⟨2, ![1, 16384]⟩
abbrev S16384 : Shape := ⟨1, ![16384]⟩
abbrev S2048 : Shape := ⟨1, ![2048]⟩
abbrev S1x16384x3 : Shape := ⟨3, ![1, 16384, 3]⟩
abbrev S16384x3 : Shape := ⟨2, ![16384, 3]⟩
abbrev S_ : Shape := ⟨0, ![]⟩
abbrev S2048x1 : Shape := ⟨2, ![2048, 1]⟩
abbrev S2048x3 : Shape := ⟨2, ![2048, 3]⟩
abbrev S7x16384x3 : Shape := ⟨3, ![7, 16384, 3]⟩
abbrev S7x16384 : Shape := ⟨2, ![7, 16384]⟩
abbrev S1x2048x1 : Shape := ⟨3, ![1, 2048, 1]⟩
abbrev S7x1x16384 : Shape := ⟨3, ![7, 1, 16384]⟩
abbrev S7x2048x16384 : Shape := ⟨3, ![7, 2048, 16384]⟩
abbrev S7x16384x2048 : Shape := ⟨3, ![7, 16384, 2048]⟩
abbrev S7x2048 : Shape := ⟨2, ![7, 2048]⟩
abbrev S1x2048 : Shape := ⟨2, ![1, 2048]⟩
abbrev S8x2048 : Shape := ⟨2, ![8, 2048]⟩
abbrev S8x2048x1 : Shape := ⟨3, ![8, 2048, 1]⟩
abbrev S8x2048x2 : Shape := ⟨3, ![8, 2048, 2]⟩
abbrev S8x2048x3 : Shape := ⟨3, ![8, 2048, 3]⟩

abbrev nBuf : Space → Nat
  | .hbm => 105
  | .vmem => 0
  | .smem => 0
  | _ => 0

abbrev bufTy : (tb : Table) → Fin (tcTables nBuf tb) → BufTy
  | .hbm, ⟨0, _⟩ => ⟨S8x128x128x3, .f32⟩
  | .hbm, ⟨1, _⟩ => ⟨S8x128x128, .f32⟩
  | .hbm, ⟨2, _⟩ => ⟨S8x16384x3, .f32⟩
  | .hbm, ⟨3, _⟩ => ⟨S8x16384, .f32⟩
  | .hbm, ⟨4, _⟩ => ⟨S1x16384, .f32⟩
  | .hbm, ⟨5, _⟩ => ⟨S16384, .f32⟩
  | .hbm, ⟨6, _⟩ => ⟨S2048, .f32⟩
  | .hbm, ⟨7, _⟩ => ⟨S2048, .i32⟩
  | .hbm, ⟨8, _⟩ => ⟨S1x16384x3, .f32⟩
  | .hbm, ⟨9, _⟩ => ⟨S16384x3, .f32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x3, .f32⟩
  | .hbm, ⟨19, _⟩ => ⟨S2048x3, .f32⟩
  | .hbm, ⟨20, _⟩ => ⟨S_, .f32⟩
  | .hbm, ⟨21, _⟩ => ⟨S2048, .f32⟩
  | .hbm, ⟨22, _⟩ => ⟨S7x16384x3, .f32⟩
  | .hbm, ⟨23, _⟩ => ⟨S7x16384x3, .f32⟩
  | .hbm, ⟨24, _⟩ => ⟨S_, .f32⟩
  | .hbm, ⟨25, _⟩ => ⟨S7x16384, .f32⟩
  | .hbm, ⟨26, _⟩ => ⟨S1x2048x1, .f32⟩
  | .hbm, ⟨27, _⟩ => ⟨S7x1x16384, .f32⟩
  | .hbm, ⟨28, _⟩ => ⟨S7x2048x16384, .f32⟩
  | .hbm, ⟨29, _⟩ => ⟨S7x2048x16384, .f32⟩
  | .hbm, ⟨30, _⟩ => ⟨S7x2048x16384, .f32⟩
  | .hbm, ⟨31, _⟩ => ⟨S7x16384x2048, .f32⟩
  | .hbm, ⟨32, _⟩ => ⟨S7x2048x16384, .f32⟩
  | .hbm, ⟨33, _⟩ => ⟨S_, .f32⟩
  | .hbm, ⟨34, _⟩ => ⟨S7x2048x16384, .f32⟩
  | .hbm, ⟨35, _⟩ => ⟨S7x2048x16384, .f32⟩
  | .hbm, ⟨36, _⟩ => ⟨S7x2048x16384, .f32⟩
  | .hbm, ⟨37, _⟩ => ⟨S7x2048x16384, .i32⟩
  | .hbm, ⟨38, _⟩ => ⟨S_, .f32⟩
  | .hbm, ⟨39, _⟩ => ⟨S_, .i32⟩
  | .hbm, ⟨40, _⟩ => ⟨S7x2048, .f32⟩
  | .hbm, ⟨41, _⟩ => ⟨S7x2048, .i32⟩
  | .hbm, ⟨42, _⟩ => ⟨S1x2048, .i32⟩
  | .hbm, ⟨43, _⟩ => ⟨S8x2048, .i32⟩
  | .hbm, ⟨44, _⟩ => ⟨S_, .i32⟩
  | .hbm, ⟨45, _⟩ => ⟨S_, .i32⟩
  | .hbm, ⟨46, _⟩ => ⟨S8x2048, .i32⟩
  | .hbm, ⟨47, _⟩ => ⟨S8x2048, .i32⟩
  | .hbm, ⟨48, _⟩ => ⟨S8x2048, .i32⟩
  | .hbm, ⟨49, _⟩ => ⟨S_, .i32⟩
  | .hbm, ⟨50, _⟩ => ⟨S8x2048, .i32⟩
  | .hbm, ⟨51, _⟩ => ⟨S8x2048, .i1⟩
  | .hbm, ⟨52, _⟩ => ⟨S8x2048, .i32⟩
  | .hbm, ⟨53, _⟩ => ⟨S8x2048, .i32⟩
  | .hbm, ⟨54, _⟩ => ⟨S_, .i32⟩
  | .hbm, ⟨55, _⟩ => ⟨S8x2048, .i32⟩
  | .hbm, ⟨56, _⟩ => ⟨S8x2048, .i1⟩
  | .hbm, ⟨57, _⟩ => ⟨S8x2048, .i1⟩
  | .hbm, ⟨58, _⟩ => ⟨S_, .i32⟩
  | .hbm, ⟨59, _⟩ => ⟨S8x2048, .i32⟩
  | .hbm, ⟨60, _⟩ => ⟨S8x2048, .i32⟩
  | .hbm, ⟨61, _⟩ => ⟨S8x2048, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S8x2048, .i32⟩
  | .hbm, ⟨69, _⟩ => ⟨S8x2048, .i32⟩
  | .hbm, ⟨70, _⟩ => ⟨S_, .i32⟩
  | .hbm, ⟨71, _⟩ => ⟨S8x2048, .i32⟩
  | .hbm, ⟨72, _⟩ => ⟨S8x2048, .i1⟩
  | .hbm, ⟨73, _⟩ => ⟨S_, .i32⟩
  | .hbm, ⟨74, _⟩ => ⟨S8x2048, .i32⟩
  | .hbm, ⟨75, _⟩ => ⟨S8x2048, .i1⟩
  | .hbm, ⟨76, _⟩ => ⟨S_, .i32⟩
  | .hbm, ⟨77, _⟩ => ⟨S_, .i1⟩
  | .hbm, ⟨78, _⟩ => ⟨S8x2048, .i1⟩
  | .hbm, ⟨79, _⟩ => ⟨S8x2048, .i1⟩
  | .hbm, ⟨80, _⟩ => ⟨S8x2048, .i1⟩
  | .hbm, ⟨81, _⟩ => ⟨S8x2048, .i32⟩
  | .hbm, ⟨82, _⟩ => ⟨S8x2048, .i32⟩
  | .hbm, ⟨83, _⟩ => ⟨S8x2048, .i32⟩
  | .hbm, ⟨84, _⟩ => ⟨S8x2048x1, .i32⟩
  | .hbm, ⟨85, _⟩ => ⟨S8x2048x1, .i32⟩
  | .hbm, ⟨86, _⟩ => ⟨S8x2048x2, .i32⟩
  | .hbm, ⟨87, _⟩ => ⟨S_, .i32⟩
  | .hbm, ⟨88, _⟩ => ⟨S8x2048, .i32⟩
  | .hbm, ⟨89, _⟩ => ⟨S8x2048, .i1⟩
  | .hbm, ⟨90, _⟩ => ⟨S_, .i32⟩
  | .hbm, ⟨91, _⟩ => ⟨S8x2048, .i32⟩
  | .hbm, ⟨92, _⟩ => ⟨S8x2048, .i32⟩
  | .hbm, ⟨93, _⟩ => ⟨S8x2048, .i32⟩
  | .hbm, ⟨94, _⟩ => ⟨S8x2048x1, .i32⟩
  | .hbm, ⟨95, _⟩ => ⟨S8x2048x3, .f32⟩
  | .hbm, ⟨96, _⟩ => ⟨S_, .i32⟩
  | .hbm, ⟨97, _⟩ => ⟨S8x2048, .i32⟩
  | .hbm, ⟨98, _⟩ => ⟨S8x2048, .i1⟩
  | .hbm, ⟨99, _⟩ => ⟨S_, .i32⟩
  | .hbm, ⟨100, _⟩ => ⟨S8x2048, .i32⟩
  | .hbm, ⟨101, _⟩ => ⟨S8x2048, .i32⟩
  | .hbm, ⟨102, _⟩ => ⟨S8x2048, .i32⟩
  | .hbm, ⟨103, _⟩ => ⟨S8x2048x1, .i32⟩
  | .hbm, ⟨104, _⟩ => ⟨S8x2048, .f32⟩
  | _, _ => ⟨S8x128x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_values : Ref sig .tc := ⟨.hbm, 6, rfl⟩
abbrev main_indices : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_cst : Ref sig .tc := ⟨.hbm, 38, rfl⟩
abbrev main_call0_c : Ref sig .tc := ⟨.hbm, 39, rfl⟩
abbrev main_call0_v1_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v31 : Ref sig .tc := ⟨.hbm, 61, rfl⟩
abbrev main_c_4 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_c_5 : Ref sig .tc := ⟨.hbm, 87, rfl⟩
abbrev main_v36 : Ref sig .tc := ⟨.hbm, 88, rfl⟩
abbrev main_v37 : Ref sig .tc := ⟨.hbm, 89, rfl⟩
abbrev main_c_6 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_c_7 : Ref sig .tc := ⟨.hbm, 96, rfl⟩
abbrev main_v43 : Ref sig .tc := ⟨.hbm, 97, rfl⟩
abbrev main_v44 : Ref sig .tc := ⟨.hbm, 98, rfl⟩
abbrev main_c_8 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩

abbrev nD : Nat := 1
abbrev τ : Topo := Topo.v7x

variable {F : FTy → Type} [FloatOps F]
-- ==== Proof.KernelIdeal.Least.lean ====
module

public import Idealize.ShloMosaic.Lib.Pointwise

@[expose] public section

/-! # The first position of a least value

Both programs look for the first of the positions at which a row of distances is least. The word that
names it is characterised once, and each program's own way of finding it is shown to give that word. -/

noncomputable section

namespace Cert.Least

open Idealize.ShloMosaic

variable {n : ℕ}

/-- The word `w` names the first position of `x` whose value no other is below. -/
def First (x : Fin n → EReal) (w : BitVec 32) : Prop :=
  ∃ k : Fin n, w = BitVec.ofNat 32 k.val ∧ (∀ i, x k ≤ x i) ∧ ∀ i, x i = x k → k ≤ i

/-- At most one word does so. -/
theorem First.unique {x : Fin n → EReal} {w w' : BitVec 32} (h : First x w) (h' : First x w') : w = w' := by
  obtain ⟨k, rfl, hk, hk'⟩ := h
  obtain ⟨l, rfl, hl, hl'⟩ := h'
  have e : x k = x l := le_antisymm (hk l) (hl k)
  have : k = l := le_antisymm (hk' l e.symm) (hl' k e)
  rw [this]

/-- Some position is the first least one of a row that is not empty. -/
theorem exists_first (x : Fin n → EReal) (hn : 0 < n) : ∃ k : Fin n, (∀ i, x k ≤ x i) ∧ ∀ i, x i = x k → k ≤ i := by
  classical
  haveI : Nonempty (Fin n) := ⟨⟨0, hn⟩⟩
  obtain ⟨k₀, hk₀⟩ := Finite.exists_min x
  have hne : (Finset.univ.filter fun i => x i = x k₀).Nonempty := ⟨k₀, by simp⟩
  refine ⟨(Finset.univ.filter fun i => x i = x k₀).min' hne, ?_, ?_⟩
  · intro i
    have := Finset.min'_mem _ hne
    rw [Finset.mem_filter] at this
    rw [this.2]; exact hk₀ i
  · intro i hi
    have := Finset.min'_mem _ hne
    rw [Finset.mem_filter] at this
    exact Finset.min'_le _ _ (by rw [Finset.mem_filter]; exact ⟨Finset.mem_univ _, hi.trans this.2⟩)

/-- The word is below the row's length. -/
theorem First.lt {x : Fin n → EReal} {w : BitVec 32} (h : First x w) : w.toNat < n := by
  obtain ⟨k, rfl, -, -⟩ := h
  rw [BitVec.toNat_ofNat]
  exact lt_of_le_of_lt (Nat.mod_le _ _) k.isLt

/-! ## By a minimum and a second pass -/

/-- The least value of the row. -/
theorem fold_min_eq (x : Fin n → EReal) (k : Fin n) (hk : ∀ i, x k ≤ x i) :
    (Finset.univ : Finset (Fin n)).fold min (⊤ : EReal) x = x k := by
  apply le_antisymm
  · rw [Finset.fold_min_le]; exact .inr ⟨k, Finset.mem_univ _, le_rfl⟩
  · rw [Finset.le_fold_min]; exact ⟨le_top, fun i _ => hk i⟩

/-- The signed minimum of two words, as numbers. -/
theorem toInt_minsi (a b : BitVec 32) : (IntOp.minsi a b).toInt = min a.toInt b.toInt := by
  unfold IntOp.minsi
  split
  · rename_i h; rw [BitVec.slt_iff_toInt_lt] at h; exact (min_eq_left h.le).symm
  · rename_i h; rw [BitVec.slt_iff_toInt_lt, not_lt] at h; exact (min_eq_right h).symm

/-- A position below 2³¹ read signed. -/
theorem toInt_pos (k : ℕ) (hk : k < 2 ^ 31) : (BitVec.ofNat 32 k).toInt = k := by
  rw [BitVec.toInt_eq_toNat_of_lt (by rw [BitVec.toNat_ofNat]; omega), BitVec.toNat_ofNat, Nat.mod_eq_of_lt (by omega)]

/-- The least of the positions that hold the least value, the others counted as the row's length. -/
theorem first_of_passes (hn : 0 < n) (hn' : n < 2 ^ 31) (x : Fin n → EReal) :
    First x ((Finset.univ : Finset (Fin n)).fold IntOp.minsi (2147483647#32)
      fun i => if x i = (Finset.univ : Finset (Fin n)).fold min (⊤ : EReal) x then BitVec.ofNat 32 i.val else BitVec.ofNat 32 n) := by
  obtain ⟨k, hk, hk'⟩ := exists_first x hn
  refine ⟨k, ?_, hk, hk'⟩
  rw [fold_min_eq x k hk]
  apply BitVec.eq_of_toInt_eq
  rw [← Finset.fold_hom (op' := (min : ℤ → ℤ → ℤ)) (m := BitVec.toInt) toInt_minsi, toInt_pos k (by omega)]
  have hlt := k.isLt
  apply le_antisymm
  · rw [Finset.fold_min_le]
    refine .inr ⟨k, Finset.mem_univ _, ?_⟩
    rw [if_pos rfl, toInt_pos k (by omega)]
  · rw [Finset.le_fold_min]
    refine ⟨?_, fun i _ => ?_⟩
    · have : (2147483647#32 : BitVec 32).toInt = 2147483647 := by decide
      rw [this]; omega
    · have hi := i.isLt
      by_cases h : x i = x k
      · rw [if_pos h, toInt_pos i (by omega)]
        have := hk' i h
        rw [Fin.le_def] at this; omega
      · rw [if_neg h, toInt_pos n (by omega)]; omega

/-! ## By one pass over pairs of a value and its position -/

/-- The better of two pairs: the lesser value, on equal values the lesser position. -/
def better (a b : EReal × BitVec 32) : EReal × BitVec 32 :=
  (if a.1 < b.1 then a.1 else b.1, if a.1 < b.1 ∨ (a.1 = b.1 ∧ a.2.toInt < b.2.toInt) then a.2 else b.2)

/-- What one pass has found so far: the pair it started from or one of those it saw, and none better. -/
theorem pass_inv (l : List (EReal × BitVec 32)) (a : EReal × BitVec 32) :
    (l.foldl better a = a ∨ l.foldl better a ∈ l)
      ∧ ((l.foldl better a).1 < a.1 ∨ ((l.foldl better a).1 = a.1 ∧ (l.foldl better a).2.toInt ≤ a.2.toInt))
      ∧ ∀ p ∈ l, (l.foldl better a).1 < p.1 ∨ ((l.foldl better a).1 = p.1 ∧ (l.foldl better a).2.toInt ≤ p.2.toInt) := by
  induction l generalizing a with
  | nil => exact ⟨.inl rfl, .inr ⟨rfl, le_rfl⟩, by simp⟩
  | cons b l ih =>
    rw [List.foldl_cons]
    obtain ⟨h1, h2, h3⟩ := ih (better a b)
    have hab : (better a b = a ∨ better a b = b)
        ∧ ((better a b).1 < a.1 ∨ ((better a b).1 = a.1 ∧ (better a b).2.toInt ≤ a.2.toInt))
        ∧ ((better a b).1 < b.1 ∨ ((better a b).1 = b.1 ∧ (better a b).2.toInt ≤ b.2.toInt)) := by
      unfold better
      rcases lt_trichotomy a.1 b.1 with h | h | h
      · simp [h]
      · by_cases h' : a.2.toInt < b.2.toInt
        · simp [h, h', h'.le]; exact .inl (Prod.ext h.symm rfl)
        · simp [h, h']; rw [not_lt] at h'; exact h'
      · have hn : ¬ a.1 < b.1 := not_lt.mpr h.le
        have hne : a.1 ≠ b.1 := h.ne'
        simp [hn, hne, h]
    have tr : ∀ p q r : EReal × BitVec 32, (p.1 < q.1 ∨ (p.1 = q.1 ∧ p.2.toInt ≤ q.2.toInt)) →
        (q.1 < r.1 ∨ (q.1 = r.1 ∧ q.2.toInt ≤ r.2.toInt)) → (p.1 < r.1 ∨ (p.1 = r.1 ∧ p.2.toInt ≤ r.2.toInt)) := by
      rintro p q r (h | ⟨h, h'⟩) (g | ⟨g, g'⟩)
      · exact .inl (h.trans g)
      · exact .inl (g ▸ h)
      · exact .inl (h ▸ g)
      · exact .inr ⟨h.trans g, h'.trans g'⟩
    refine ⟨?_, tr _ _ _ h2 hab.2.1, ?_⟩
    · rcases h1 with h1 | h1
      · rcases hab.1 with e | e
        · exact .inl (h1.trans e)
        · exact .inr (by rw [h1, e]; exact List.mem_cons_self)
      · exact .inr (List.mem_cons_of_mem _ h1)
    · intro p hp
      rcases List.mem_cons.mp hp with rfl | hp
      · exact tr _ _ _ h2 hab.2.2
      · exact h3 p hp

/-- One pass over the row's pairs, in any order, from the greatest value at position zero. -/
theorem first_of_pass (hn : 0 < n) (hn' : n < 2 ^ 31) (x : Fin n → EReal) (l : List (EReal × BitVec 32))
    (hl : ∀ p, p ∈ l ↔ ∃ i : Fin n, p = (x i, BitVec.ofNat 32 i.val)) : First x (l.foldl better (⊤, 0#32)).2 := by
  obtain ⟨h1, h2, h3⟩ := pass_inv l (⊤, 0#32)
  have key : ∃ k : Fin n, l.foldl better (⊤, 0#32) = (x k, BitVec.ofNat 32 k.val) := by
    rcases h1 with h1 | h1
    · have h0 := h3 _ ((hl _).mpr ⟨⟨0, hn⟩, rfl⟩)
      rw [h1] at h0 ⊢
      refine ⟨⟨0, hn⟩, Prod.ext ?_ rfl⟩
      rcases h0 with h0 | h0
      · exact absurd h0 (not_lt.mpr le_top)
      · exact h0.1
    · exact (hl _).mp h1
  obtain ⟨k, hk⟩ := key
  rw [hk] at h3 ⊢
  refine ⟨k, rfl, fun i => ?_, fun i hi => ?_⟩
  · rcases h3 _ ((hl _).mpr ⟨i, rfl⟩) with h | h
    · exact h.le
    · exact h.1.le
  · rcases h3 _ ((hl _).mpr ⟨i, rfl⟩) with h | h
    · exact absurd hi h.ne'
    · have := h.2
      have hk := k.isLt; have hi := i.isLt
      rw [toInt_pos k (by omega), toInt_pos i (by omega)] at this
      rw [Fin.le_def]; omega

end Cert.Least
-- ==== Proof.KernelIdeal.Blocks.lean ====
module

public import proofs.«01_k».proof.KernelIdeal
public import proofs.«01_k».proof.Proof.Gen.KernelIdeal

@[expose] public section

noncomputable section

namespace Cert.KernelIdeal.Hand

open Idealize.ShloMosaic Idealize.ShloMosaic.TcCoe Idealize.SL.Sem
open Cert.KernelIdeal.Facts₀ Cert.KernelIdeal.Facts

variable {F : FTy → Type} [FloatOps F]

/-! ## The two integer results of a lane -/

/-- The word `n` in each of the sixteen lanes. -/
abbrev lanes (n : BitVec 32) : IVec S16 32 := broadcast S16 n

/-- A lane's row: its index divided by 128, rounded down. -/
def rowOf (v : IVec S16 32) : IVec S16 32 :=
  select
    (andi
      (cmpi .ne
        (subi (extui 32 (cmpi .sgt v (lanes 0#32)) natLt_1_32) (extui 32 (cmpi .slt v (lanes 0#32)) natLt_1_32))
        (lanes (Scalar.subi (Scalar.extui (Scalar.cmpi .sgt 128#32 0#32)) (Scalar.extui (Scalar.cmpi .slt 128#32 0#32)))))
      (cmpi .ne (remsi v (lanes 128#32)) (lanes 0#32)))
    (subi (divsi v (lanes 128#32)) (lanes 1#32))
    (divsi v (lanes 128#32))

/-- The divisor of the column: 128, read through the kernel's guard against zero. -/
abbrev width : BitVec 32 := Scalar.select (Scalar.cmpi .eq 128#32 0#32) 1#32 128#32

/-- A lane's column: its index modulo 128, with the divisor's sign. -/
def colOf (v : IVec S16 32) : IVec S16 32 :=
  select
    (andi
      (xori (cmpi .slt (remsi v (lanes width)) (lanes 0#32))
        (broadcastTo S16 (broadcast S16 (Scalar.cmpi .slt width 0#32)) broadcasts_S16_S16))
      (cmpi .ne (remsi v (lanes width)) (lanes 0#32)))
    (addi (remsi v (lanes width)) (lanes width))
    (remsi v (lanes width))

/-- A tile's program, at its place in the grid. -/
abbrev TileProg (F : FTy → Type) (i : grid1.Coords) : Type 1 :=
  Prog (TpuEff nD τ sig (Elt F) Λ₀ (.scVector ((i 0).castLE hcore1) ((i 1).castLE hsub1))) PUnit

/-! ## The body as thirty-two equal blocks -/

section Blocks

variable (i : grid1.Coords)
  (arg2 : Memref sig .scVector .hbm S16384 .i32) (harg2 : arg2.IsWhole)
  (arg3 : Memref sig .scVector .hbm S131072 .f32) (harg3 : arg3.IsWhole)
  (arg4 : Memref sig .scVector .hbm S131072 .f32) (harg4 : arg4.IsWhole)
  (arg5 : Memref sig .scVector .hbm S131072 .f32) (harg5 : arg5.IsWhole)
  (arg6 : Memref sig .scVector .hbm S131072 .f32) (harg6 : arg6.IsWhole)
  (arg7 : Memref sig .scVector .hbm S16384 .i32) (harg7 : arg7.IsWhole)
  (arg8 : Memref sig .scVector .hbm S16384 .i32) (harg8 : arg8.IsWhole)
  (arg9 : Memref sig .scVector .hbm S16384 .f32) (harg9 : arg9.IsWhole)
  (arg10 : Memref sig .scVector .hbm S16384 .f32) (harg10 : arg10.IsWhole)
  (arg11 : Memref sig .scVector .hbm S16384 .f32) (harg11 : arg11.IsWhole)
  (arg12 : Memref sig .scVector .hbm S16384 .f32) (harg12 : arg12.IsWhole)
  (arg13 : Memref sig .scVector .vmem S512 .i32) (harg13 : arg13.IsWhole)
  (arg14 : Memref sig .scVector .vmem S16384 .f32) (harg14 : arg14.IsWhole)
  (arg15 : Memref sig .scVector .vmem S16384 .f32) (harg15 : arg15.IsWhole)
  (arg16 : Memref sig .scVector .vmem S16384 .f32) (harg16 : arg16.IsWhole)
  (arg17 : Memref sig .scVector .vmem S16384 .f32) (harg17 : arg17.IsWhole)
  (arg18 : Memref sig .scVector .vmem S512 .i32) (harg18 : arg18.IsWhole)
  (arg19 : Memref sig .scVector .vmem S512 .i32) (harg19 : arg19.IsWhole)
  (arg20 : Memref sig .scVector .vmem S512 .f32) (harg20 : arg20.IsWhole)
  (arg21 : Memref sig .scVector .vmem S512 .f32) (harg21 : arg21.IsWhole)
  (arg22 : Memref sig .scVector .vmem S512 .f32) (harg22 : arg22.IsWhole)
  (arg23 : Memref sig .scVector .vmem S512 .f32) (harg23 : arg23.IsWhole)
  (s0 s1 s2 s3 s4 s5 s6 s7 s8 s9 s10 : DmaSems sig S_)

/-- The sixteen entries of a 512-entry buffer from `o` on. -/
abbrev lane16 (o : Nat) (ho : ∀ a, (![o] : Fin 1 → Nat) a + S16.size a ≤ S512.size a) : Rect S512 :=
  Rect.unit (s := S512) ![o] S16.size ho

/-- A table's entries at sixteen indices, stored over the sixteen entries of `dst` from `o` on. -/
def gatherBlock (tab : Memref sig .scVector .vmem S16384 .f32) (dst : Memref sig .scVector .vmem S512 .f32)
    (o : Nat) (ho : ∀ a, (![o] : Fin 1 → Nat) a + S16.size a ≤ S512.size a) (v : Vec F S16 .i32)
    (hv : ∀ a x, ((![v] : Fin 1 → IVec S16 32) a x).toNat < S16384.size a) : TileProg F i := do
  let g : Vec F S16 .f32 ← SparseCore.vectorLoadIdx tab ![v] hv (View.loads_vmem h_S16384)
  let _old : Vec F S16 .f32 ← Prog.lift (.load dst (lane16 o ho).toLoadRect (View.loadsAt_vmem h_S16))
  Prog.lift (.store dst (lane16 o ho) g Finset.univ (View.stores_vmem_bits_univ h_S16 rfl) (.inl rfl))

/-- Sixteen words stored over the sixteen entries of `dst` from `o` on. -/
def wordBlock (dst : Memref sig .scVector .vmem S512 .i32)
    (o : Nat) (ho : ∀ a, (![o] : Fin 1 → Nat) a + S16.size a ≤ S512.size a) (v : Vec F S16 .i32) : TileProg F i := do
  let _old : Vec F S16 .i32 ← Prog.lift (.load dst (lane16 o ho).toLoadRect (View.loadsAt_vmem h_S16))
  Prog.lift (.store dst (lane16 o ho) v Finset.univ (View.stores_vmem_bits_univ h_S16 rfl) (.inl rfl))

/-- One block: the sixteen indices from `o` on, the four tables read at them, and their rows and columns. -/
def block (o : Nat) (ho : ∀ a, (![o] : Fin 1 → Nat) a + S16.size a ≤ S512.size a) : TileProg F i := do
  let v : Vec F S16 .i32 ← Prog.lift (.load arg13 (lane16 o ho).toLoadRect (View.loadsAt_vmem h_S16))
  have hv : k1_chk1 v := (← Prog.lift (TpuEff.assume (k1_chk1 v) (k1_chk1.dec v))).down
  gatherBlock (F := F) i arg14 arg20 o ho v (k1_idx1_inb v hv)
  gatherBlock (F := F) i arg15 arg21 o ho v (k1_idx2_inb v hv)
  gatherBlock (F := F) i arg16 arg22 o ho v (k1_idx3_inb v hv)
  gatherBlock (F := F) i arg17 arg23 o ho v (k1_idx4_inb v hv)
  wordBlock (F := F) i arg18 o ho (rowOf v)
  wordBlock (F := F) i arg19 o ho (colOf v)

/-- One copy of a view's table into the tile's memory, waited for. -/
def copyTable (src : Memref sig .scVector .hbm S131072 .f32) (dst : Memref sig .scVector .vmem S16384 .f32)
    (hdst : dst.IsWhole) (s : DmaSems sig S_) : TileProg F i := do
  Prog.lift (.enqueueDma (src.slice (Rect.unit (s := S131072) (k1_off1 i) S16384.size (k1_off1_inb i)) (fun _ => rfl))
    (.here dst) (.dma s.sem) (View.wordExact_bits rfl) hdst.wordExact ⟨Or.inl rfl, trivial⟩)
  Prog.lift (.waitDma2 s.sem (src.slice (Rect.unit (s := S131072) (k1_off1 i) S16384.size (k1_off1_inb i)) (fun _ => rfl))
    dst (View.wordExact_bits rfl) hdst.wordExact)

/-- The copy of the tile's indices into its memory, waited for. -/
def copyIndex : TileProg F i := do
  Prog.lift (.enqueueDma (arg2.slice (Rect.unit (s := S16384) (k1_off2 i) S512.size (k1_off2_inb i)) (fun _ => rfl))
    (.here arg13) (.dma s4.sem) (View.wordExact_bits rfl) harg13.wordExact ⟨Or.inl rfl, trivial⟩)
  Prog.lift (.waitDma2 s4.sem (arg2.slice (Rect.unit (s := S16384) (k1_off2 i) S512.size (k1_off2_inb i)) (fun _ => rfl))
    arg13 (View.wordExact_bits rfl) harg13.wordExact)

/-- One copy of a tile's 512 results out to its rows of an output, waited for. -/
def copyOut {e : EltTy} (he : e.bits = 32) (src : Memref sig .scVector .vmem S512 e) (hsrc : src.IsWhole)
    (dst : Memref sig .scVector .hbm S16384 e) (s : DmaSems sig S_) : TileProg F i := do
  Prog.lift (.enqueueDma src
    (.here (dst.slice (Rect.unit (s := S16384) (k1_off3 i) S512.size (k1_off3_inb i)) (fun _ => rfl))) (.dma s.sem)
    hsrc.wordExact (View.wordExact_bits he) ⟨Or.inl rfl, trivial⟩)
  Prog.lift (.waitDma2 s.sem src (dst.slice (Rect.unit (s := S16384) (k1_off3 i) S512.size (k1_off3_inb i)) (fun _ => rfl))
    hsrc.wordExact (View.wordExact_bits he))

/-- The blocks from the `k`-th on, `n` of them. -/
def blocks : (n k : Nat) → (h : k + n ≤ 32) → TileProg F i
  | 0, _, _ => pure ⟨⟩
  | n + 1, k, h => do
    block (F := F) i arg13 arg14 arg15 arg16 arg17 arg18 arg19 arg20 arg21 arg22 arg23 (16 * k)
      (fun a => by
        have e : a = 0 := Subsingleton.elim _ _
        subst e
        show 16 * k + 16 ≤ 512
        omega)
    blocks n (k + 1) (by omega)

/-- The tile's whole program: five copies in, thirty-two blocks, six copies out. -/
def tileProg : TileProg F i := do
  copyTable (F := F) i arg3 arg14 harg14 s0
  copyTable (F := F) i arg4 arg15 harg15 s1
  copyTable (F := F) i arg5 arg16 harg16 s2
  copyTable (F := F) i arg6 arg17 harg17 s3
  copyIndex (F := F) i arg2 arg13 harg13 s4
  blocks (F := F) i arg13 arg14 arg15 arg16 arg17 arg18 arg19 arg20 arg21 arg22 arg23 32 0 (by omega)
  copyOut (F := F) i rfl arg18 harg18 arg7 s5
  copyOut (F := F) i rfl arg19 harg19 arg8 s6
  copyOut (F := F) i rfl arg20 harg20 arg9 s7
  copyOut (F := F) i rfl arg21 harg21 arg10 s8
  copyOut (F := F) i rfl arg22 harg22 arg11 s9
  copyOut (F := F) i rfl arg23 harg23 arg12 s10

set_option maxRecDepth 1000000 in
set_option maxHeartbeats 4000000 in
/-- The printed body is those copies and blocks. -/
theorem body_eq : cc1__sc_gather_body (F := F) i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19
      arg20 harg20 arg21 harg21 arg22 harg22 arg23 harg23 s0 s1 s2 s3 s4 s5 s6 s7 s8 s9 s10
    = tileProg (F := F) i arg2 arg3 arg4 arg5 arg6 arg7 arg8 arg9 arg10 arg11 arg12 arg13 harg13 arg14 harg14 arg15 harg15 arg16 harg16
      arg17 harg17 arg18 harg18 arg19 harg19 arg20 harg20 arg21 harg21 arg22 harg22 arg23 harg23 s0 s1 s2 s3 s4 s5 s6 s7 s8 s9 s10 := by
  rfl

end Blocks

end Cert.KernelIdeal.Hand
-- ==== Proof.KernelIdeal.Setup.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.Blocks

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch, as its theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's cells are the launch's alone. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds and the transfers' counters side by side. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL

/-! ## A tile's memory -/

section Tile

variable (d : Dev nD) (L : grid1.Coords)

abbrev cV (L : grid1.Coords) : Fin τ.nSC := (L 0).castLE hcore1
abbrev jV (L : grid1.Coords) : Fin τ.nSub := (L 1).castLE hsub1
/-- The thread of the tile at grid place `L`. -/
abbrev thr (d : Dev nD) (L : grid1.Coords) : Thread nD τ := V d (cV L) (jV L)

/-! ### The tile's memrefs -/

abbrev hIdx : Memref sig .scVector .hbm S16384 .i32 := Memref.whole main_v21_scv
abbrev hT0 : Memref sig .scVector .hbm S131072 .f32 := Memref.whole main_v24_scv
abbrev hT1 : Memref sig .scVector .hbm S131072 .f32 := Memref.whole main_v27_scv
abbrev hT2 : Memref sig .scVector .hbm S131072 .f32 := Memref.whole main_v30_scv
abbrev hT3 : Memref sig .scVector .hbm S131072 .f32 := Memref.whole main_v31_scv
abbrev hR : Memref sig .scVector .hbm S16384 .i32 := Memref.whole main_v32_0_scv
abbrev hC : Memref sig .scVector .hbm S16384 .i32 := Memref.whole main_v32_1_scv
abbrev hO0 : Memref sig .scVector .hbm S16384 .f32 := Memref.whole main_v32_2_scv
abbrev hO1 : Memref sig .scVector .hbm S16384 .f32 := Memref.whole main_v32_3_scv
abbrev hO2 : Memref sig .scVector .hbm S16384 .f32 := Memref.whole main_v32_4_scv
abbrev hO3 : Memref sig .scVector .hbm S16384 .f32 := Memref.whole main_v32_5_scv
abbrev sIdx : Memref sig .scVector .vmem S512 .i32 := Memref.whole cc1_scratch0
abbrev sT0 : Memref sig .scVector .vmem S16384 .f32 := Memref.whole cc1_scratch1
abbrev sT1 : Memref sig .scVector .vmem S16384 .f32 := Memref.whole cc1_scratch2
abbrev sT2 : Memref sig .scVector .vmem S16384 .f32 := Memref.whole cc1_scratch3
abbrev sT3 : Memref sig .scVector .vmem S16384 .f32 := Memref.whole cc1_scratch4
abbrev sR : Memref sig .scVector .vmem S512 .i32 := Memref.whole cc1_scratch5
abbrev sC : Memref sig .scVector .vmem S512 .i32 := Memref.whole cc1_scratch6
abbrev sO0 : Memref sig .scVector .vmem S512 .f32 := Memref.whole cc1_scratch7
abbrev sO1 : Memref sig .scVector .vmem S512 .f32 := Memref.whole cc1_scratch8
abbrev sO2 : Memref sig .scVector .vmem S512 .f32 := Memref.whole cc1_scratch9
abbrev sO3 : Memref sig .scVector .vmem S512 .f32 := Memref.whole cc1_scratch10

end Tile

end Cert.KernelIdeal.Hand
-- ==== Proof.KernelIdeal.Near.lean ====
module

public import proofs.«01_k».proof.Proof.KernelIdeal.Least
public import proofs.«01_k».proof.Proof.KernelIdeal.Setup

@[expose] public section

/-! # The search block's value

One block of the search reads 256 queries and one view's 16384 keys; row `r` of what it writes names the
first key at the least distance from query `r`. -/

noncomputable section

namespace Cert.KernelIdeal.Hand

open Cert.KernelIdeal Cert.KernelIdeal.Gen Cert.Least
open Idealize.ShloMosaic

/-- The squared distance of two points, as both programs compute it: the squared lengths' sum less twice
    the product. -/
def dist (q k : Fin 3 → EReal) : EReal :=
  ((∑ a, q a * q a) + ∑ a, k a * k a) - Ideal.ofBits .f32 0x40000000#32 * ∑ a, q a * k a

/-- The constant both programs start a minimum from is the greatest value. -/
theorem ofBits_inf : Ideal.ofBits .f32 0x7F800000#32 = (⊤ : EReal) := by
  simp [Ideal.ofBits, Ideal.ieee]

set_option maxHeartbeats 4000000 in
/-- Row `r` of a block names the first of the view's points nearest to query `r`. -/
theorem pay1_first (v0 : Vec Ideal S256x3 .f32) (v2 : Vec Ideal S1x3x16384 .f32) (r : Fin 256) :
    First (fun n : Fin 16384 => dist (fun a => v0 (ix2 r a)) (fun a => v2 (ix3 0 a n))) (k0_pay1 v0 v2 (ix3 0 r 0)) := by
  have h : k0_pay1 v0 v2 (ix3 0 r 0) = (Finset.univ : Finset (Fin 16384)).fold IntOp.minsi (2147483647#32)
      (fun i => if dist (fun a => v0 (ix2 r a)) (fun a => v2 (ix3 0 a i))
        = (Finset.univ : Finset (Fin 16384)).fold min (⊤ : EReal) (fun n => dist (fun a => v0 (ix2 r a)) (fun a => v2 (ix3 0 a n)))
        then BitVec.ofNat 32 i.val else BitVec.ofNat 32 16384) := by
    pointwise [k0_pay1]
    rw [ofBits_inf]
    rfl
  rw [h]
  exact first_of_passes (by omega) (by omega) _

end Cert.KernelIdeal.Hand
-- ==== Proof.KernelIdeal.Spec.lean ====
module

public import proofs.«01_k».proof.Proof.KernelIdeal.Near

@[expose] public section

/-! # What the program computes, as plain mathematics

The points of view `s` in one row, their weights, the places the program tracks in the first view, and in
every other view the place nearest to each of them. -/

noncomputable section

namespace Cert.Spec

open Idealize.ShloMosaic Cert.Least
open Cert.KernelIdeal.Hand (dist)

/-- The shapes of the arguments and of what is read of them. -/
abbrev SX : Shape := ⟨4, ![8, 128, 128, 3]⟩
abbrev SC : Shape := ⟨3, ![8, 128, 128]⟩
abbrev SN : Shape := ⟨1, ![16384]⟩
abbrev SQ : Shape := ⟨1, ![2048]⟩
/-- The shapes of the three results. -/
abbrev SM : Shape := ⟨3, ![8, 2048, 2]⟩
abbrev SP : Shape := ⟨3, ![8, 2048, 3]⟩
abbrev SW : Shape := ⟨2, ![8, 2048]⟩

variable (X : SX.Idx → EReal) (C : SC.Idx → EReal)

/-- Point `n` of view `s`, its component `k`; -/
def point (s : Fin 8) (n : Fin 16384) (k : Fin 3) : EReal :=
  X (ix4 s ⟨n.val / 128, by omega⟩ ⟨n.val % 128, by omega⟩ k)
/-- and its weight. -/
def weight (s : Fin 8) (n : Fin 16384) : EReal := C (ix3 s ⟨n.val / 128, by omega⟩ ⟨n.val % 128, by omega⟩)

/-- The greatest weights' positions in a row, greatest first. -/
def tops (x : SN.Idx → EReal) : SQ.Idx → BitVec 32 :=
  (Host.topK (α := EReal) SQ 0 (FloatOps.cmpfTotal (F := Ideal) (φ := .f32) .gt) x ⟨rfl, by decide⟩).2

/-- The tracked places of the first view. -/
def tracked : SQ.Idx → BitVec 32 := tops fun j => weight C 0 (j 0)

/-- Each of them is a place of the row. -/
theorem tops_lt (x : SN.Idx → EReal) (j : SQ.Idx) : (tops x j).toNat < 16384 := by
  unfold tops Host.topK
  dsimp only
  unfold extractStridedSlice Host.sort2
  rw [dif_pos (show 0 < SN.rank from Nat.one_pos)]
  dsimp only
  rw [dif_pos (show 0 < SN.rank from Nat.one_pos)]
  unfold iotaInDim
  rw [BitVec.toNat_ofNat]
  exact lt_of_le_of_lt (Nat.mod_le _ _) (Fin.isLt _)

/-- A place of the row as its number. -/
def place (w : BitVec 32) : Fin 16384 := ⟨w.toNat % 16384, Nat.mod_lt _ (by omega)⟩

/-- The tracked points. -/
def query (q : Fin 2048) (k : Fin 3) : EReal := point X 0 (place (tracked C (ix1 q))) k

/-- The places of every view: the tracked ones in the first, the first nearest to each in the others. -/
def Places (I : Fin 8 → Fin 2048 → BitVec 32) : Prop :=
  (∀ q, I 0 q = tracked C (ix1 q)) ∧
    ∀ (v : Fin 7) (q : Fin 2048), First (fun n => dist (query X C q) (point X v.succ n)) (I v.succ q)

/-! ## The three results, from the places -/

/-- The row and the column of each place in its view's grid, -/
def cells (I : Fin 8 → Fin 2048 → BitVec 32) : SM.Idx → BitVec 32 := fun j =>
  if (j 2).val < 1 then BitVec.ofNat 32 ((I (j 0) (j 1)).toNat / 128) else BitVec.ofNat 32 ((I (j 0) (j 1)).toNat % 128)
/-- the points there, -/
def points (I : Fin 8 → Fin 2048 → BitVec 32) : SP.Idx → EReal := fun j => point X (j 0) (place (I (j 0) (j 1))) (j 2)
/-- and their weights. -/
def weights (I : Fin 8 → Fin 2048 → BitVec 32) : SW.Idx → EReal := fun j => weight C (j 0) (place (I (j 0) (j 1)))

variable {X C} {I I' : Fin 8 → Fin 2048 → BitVec 32}

/-- There is one such list of places. -/
theorem Places.unique (h : Places X C I) (h' : Places X C I') : I = I' := by
  funext s q
  refine Fin.cases ?_ (fun v => ?_) s
  · rw [h.1, h'.1]
  · exact (h.2 v q).unique (h'.2 v q)

/-- Every place is below the number of points. -/
theorem Places.lt (h : Places X C I) (s : Fin 8) (q : Fin 2048) : (I s q).toNat < 16384 := by
  refine Fin.cases ?_ (fun v => ?_) s
  · rw [h.1]; exact tops_lt _ _
  · exact (h.2 v q).lt

end Cert.Spec
-- ==== Proof.KernelIdeal.Tile.lean ====
module

public import proofs.«01_k».proof.Proof.KernelIdeal.Setup

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)

/-! ## Values -/

/-- A table's entry at a word. -/
def entry (t : Vec F S16384 .f32) (w : BitVec 32) : F .f32 :=
  t fun a => ⟨w.toNat % 16384, by
    have e : a = 0 := Subsingleton.elim _ _
    subst e
    exact Nat.mod_lt _ (by decide)⟩

/-- The first lane. -/
def lane0 : S16.Idx := fun _ => ⟨0, by decide +revert⟩

/-- The row of one index: `rowOf` at one lane. -/
def rowW (w : BitVec 32) : BitVec 32 := rowOf (fun _ => w) lane0
/-- The column of one index: `colOf` at one lane. -/
def colW (w : BitVec 32) : BitVec 32 := colOf (fun _ => w) lane0

theorem rowOf_apply (v : IVec S16 32) (x : S16.Idx) : rowOf v x = rowW (v x) := by
  simp only [rowOf, rowW, select, andi, cmpi, subi, extui, divsi, remsi, broadcast, lanes]
theorem colOf_apply (v : IVec S16 32) (x : S16.Idx) : colOf v x = colW (v x) := by
  simp only [colOf, colW, select, andi, xori, cmpi, addi, remsi, broadcast, broadcastTo, lanes]

/-- The first `n` entries of `f` are `G` of the indices `I`. -/
def Done {e : EltTy} (I : S512.Idx → BitVec 32) (G : BitVec 32 → Elt F e) (n : Nat) (f : S512.Idx → Elt F e) : Prop :=
  ∀ j : S512.Idx, (j 0).val < n → f j = G (I j)

/-- The place of lane `x` of the sixteen from `o` on. -/
def laneAt (o : Nat) (ho : ∀ a, (![o] : Fin 1 → Nat) a + S16.size a ≤ S512.size a) (x : S16.Idx) : S512.Idx :=
  (lane16 o ho).emb x

/-- The lane of an entry among the sixteen from `o` on. -/
def laneOf (o : Nat) (j : S512.Idx) (h : (j 0).val - o < 16) : S16.Idx := fun b => ⟨(j 0).val - o, by
  have e : b = 0 := Subsingleton.elim _ _
  subst e
  exact h⟩

theorem laneOf_coords (o : Nat) (ho : ∀ a, (![o] : Fin 1 → Nat) a + S16.size a ≤ S512.size a) (j : S512.Idx)
    (h : (j 0).val - o < 16) (hle : o ≤ (j 0).val) (a : Fin 1) :
    (j a).val = (lane16 o ho).off a + (lane16 o ho).stride a * (laneOf o j h a).val := by
  have e : a = 0 := Subsingleton.elim _ _
  subst e
  show (j 0).val = o + 1 * ((j 0).val - o)
  omega

/-- Sixteen more entries written with `G` of their indices: sixteen more are done. -/
theorem Done.step {e : EltTy} {I : S512.Idx → BitVec 32} {G : BitVec 32 → Elt F e} {o : Nat}
    (m : Memref sig .scVector .vmem S512 e) (ho : ∀ a, (![o] : Fin 1 → Nat) a + S16.size a ≤ S512.size a)
    (f : m.view.ty.Contents (Elt F)) (w : (lane16 o ho).shape.Idx → Elt F e)
    (h : Done I G o (m.view.read (Elt F) f)) (hw : ∀ x, w x = G (I (laneAt o ho x))) :
    Done I G (o + 16) (m.view.read (Elt F) (m.view.writes (Elt F) f [⟨lane16 o ho, w⟩])) := by
  intro j hj
  by_cases hlt : (j 0).val < o
  · exact (View.read_writes_cons_miss_of_axis m.view f ⟨lane16 o ho, w⟩ [] j 0 o 16 rfl rfl rfl (.inl hlt)).trans (h j hlt)
  · have hle : o ≤ (j 0).val := Nat.le_of_not_lt hlt
    have hl : (j 0).val - o < 16 := by omega
    refine (View.read_writes_cons_hit_of_coords m.view f (lane16 o ho) w [] (laneOf o j hl) j (laneOf_coords o ho j hl hle)).trans ?_
    refine (hw _).trans ?_
    exact congrArg (fun y => G (I y)) ((lane16 o ho).emb_eq_of_coords (laneOf o j hl) j (laneOf_coords o ho j hl hle))

/-- A gather at in-range words is the table's entries at them. -/
theorem loadIdx_entry (t : Vec F S16384 .f32) (v : IVec S16 32)
    (hv : ∀ a x, ((![v] : Fin 1 → IVec S16 32) a x).toNat < S16384.size a) (x : S16.Idx) :
    loadIdx (F := F) (e := .f32) t ![v] hv x = entry t (v x) := by
  unfold loadIdx entry
  congr 1
  funext a
  apply Fin.ext
  have e : a = 0 := Subsingleton.elim _ _
  subst e
  exact (Nat.mod_eq_of_lt (hv 0 x)).symm

/-- The check of one lane: an index read from the tile's indices is in range. -/
theorem chk_entry (I : S512.Idx → BitVec 32) (hI : ∀ j, (I j).toNat < 16384) (o : Nat)
    (ho : ∀ a, (![o] : Fin 1 → Nat) a + S16.size a ≤ S512.size a) (a : Fin 1) (x : S16.Idx) :
    ((![fun y : S16.Idx => I (laneAt o ho y)] : Fin 1 → IVec S16 32) a x).toNat < S16384.size a := by
  have e : a = 0 := Subsingleton.elim _ _
  subst e
  exact hI _

/-! ## The blocks -/

variable [FloatOps F]

/-- A result buffer whose first `n` entries are `G` of the indices `I`. -/
def part {e : EltTy} (m : Memref sig .scVector .vmem S512 e) (I : S512.Idx → BitVec 32) (G : BitVec 32 → Elt F e) (n : Nat) : sProp 𝕄 :=
  iprop(∃ f, ⌜Done (F := F) I G n (m.view.read (Elt F) f)⌝ ∗ (m.view.loc (thr d L) ↦{fullShare} f))

set_option maxHeartbeats 1000000 in
/-- One gather and its store: the table kept, sixteen more entries of the destination done. -/
theorem wp_gatherBlock (tab : Memref sig .scVector .vmem S16384 .f32) (dst : Memref sig .scVector .vmem S512 .f32)
    (o : Nat) (ho : ∀ a, (![o] : Fin 1 → Nat) a + S16.size a ≤ S512.size a) (I : S512.Idx → BitVec 32)
    (hv : ∀ a x, ((![fun y : S16.Idx => I (laneAt o ho y)] : Fin 1 → IVec S16 32) a x).toNat < S16384.size a)
    (t : Buf (Elt F) (tab.view.loc (thr d L))) (Q : PUnit → sProp 𝕄) :
    iprop((tab.view.loc (thr d L) ↦{fullShare} t)
      ∗ part (F := F) d L dst I (entry ((tab.access (.whole S16384)).read (Elt F) t)) o
      ∗ ((tab.view.loc (thr d L) ↦{fullShare} t)
          -∗ part (F := F) d L dst I (entry ((tab.access (.whole S16384)).read (Elt F) t)) (o + 16) -∗ Q ⟨⟩))
      ⊢ wp frame (wpE (defs₀ (F := F)) 𝒱₀ (thr d L) none) Set.univ
          (gatherBlock (F := F) L tab dst o ho (fun y : S16.Idx => I (laneAt o ho y)) hv) Q := by
  unfold gatherBlock part
  iintro ⟨Ht, ⟨%f, %hf, Hf⟩, Hk⟩
  iapply (SparseCore.wp_vectorLoadIdx 𝒱₀ (thr d L) none Set.univ (base := tab) (S := Finset.univ) (q := fullShare) (f := t) (Finset.subset_univ _)) $$ Ht
  iintro Ht
  sl_exec
  sl_step
  iapply Hk $$ Ht
  iexists _
  isplitr
  · ipureintro
    exact Done.step (F := F) dst ho f _ hf fun x => loadIdx_entry _ (fun y : S16.Idx => I (laneAt o ho y)) hv x
  · iexact Hf

set_option maxHeartbeats 1000000 in
/-- One store of sixteen words, each `G` of its index: sixteen more entries of the destination done. -/
theorem wp_wordBlock (dst : Memref sig .scVector .vmem S512 .i32)
    (o : Nat) (ho : ∀ a, (![o] : Fin 1 → Nat) a + S16.size a ≤ S512.size a) (I : S512.Idx → BitVec 32)
    (G : BitVec 32 → BitVec 32) (v : Vec F S16 .i32) (hv : ∀ x, v x = G (I (laneAt o ho x))) (Q : PUnit → sProp 𝕄) :
    iprop(part (F := F) (e := .i32) d L dst I G o ∗ (part (F := F) (e := .i32) d L dst I G (o + 16) -∗ Q ⟨⟩))
      ⊢ wp frame (wpE (defs₀ (F := F)) 𝒱₀ (thr d L) none) Set.univ (wordBlock (F := F) L dst o ho v) Q := by
  unfold wordBlock part
  iintro ⟨⟨%f, %hf, Hf⟩, Hk⟩
  sl_exec
  sl_step
  iapply Hk
  iexists _
  isplitr
  · ipureintro
    exact Done.step (F := F) (e := .i32) dst ho f v hf hv
  · iexact Hf

section Generic

variable (mI : Memref sig .scVector .vmem S512 .i32)
  (m0 m1 m2 m3 : Memref sig .scVector .vmem S16384 .f32)
  (mR mC : Memref sig .scVector .vmem S512 .i32)
  (n0 n1 n2 n3 : Memref sig .scVector .vmem S512 .f32)

/-- What the tile holds after `n` entries: its indices, its four tables, and the six results done so far. -/
def inv (I : Buf (Elt F) (mI.view.loc (thr d L))) (t0 : Buf (Elt F) (m0.view.loc (thr d L)))
    (t1 : Buf (Elt F) (m1.view.loc (thr d L))) (t2 : Buf (Elt F) (m2.view.loc (thr d L)))
    (t3 : Buf (Elt F) (m3.view.loc (thr d L))) (n : Nat) : sProp 𝕄 :=
  iprop((mI.view.loc (thr d L) ↦{fullShare} I)
    ∗ (m0.view.loc (thr d L) ↦{fullShare} t0) ∗ (m1.view.loc (thr d L) ↦{fullShare} t1)
    ∗ (m2.view.loc (thr d L) ↦{fullShare} t2) ∗ (m3.view.loc (thr d L) ↦{fullShare} t3)
    ∗ part (F := F) (e := .i32) d L mR (mI.view.read (Elt F) I) rowW n
    ∗ part (F := F) (e := .i32) d L mC (mI.view.read (Elt F) I) colW n
    ∗ part (F := F) d L n0 (mI.view.read (Elt F) I) (entry ((m0.access (.whole S16384)).read (Elt F) t0)) n
    ∗ part (F := F) d L n1 (mI.view.read (Elt F) I) (entry ((m1.access (.whole S16384)).read (Elt F) t1)) n
    ∗ part (F := F) d L n2 (mI.view.read (Elt F) I) (entry ((m2.access (.whole S16384)).read (Elt F) t2)) n
    ∗ part (F := F) d L n3 (mI.view.read (Elt F) I) (entry ((m3.access (.whole S16384)).read (Elt F) t3)) n)

omit [FloatOps F] in
/-- The sixteen indices a block reads. -/
theorem readAt_lanes (I : Buf (Elt F) (mI.view.loc (thr d L))) (o : Nat)
    (ho : ∀ a, (![o] : Fin 1 → Nat) a + S16.size a ≤ S512.size a) :
    View.readAt (Elt F) mI.view (lane16 o ho).toLoadRect I
      = fun y : S16.Idx => (mI.view.read (Elt F) I (laneAt o ho y) : BitVec 32) := rfl

set_option maxHeartbeats 1000000 in
/-- One block: sixteen more entries of every result done. -/
theorem wp_block (I t0 t1 t2 t3) (hI : ∀ j, (mI.view.read (Elt F) I j : BitVec 32).toNat < 16384)
    (o : Nat) (ho : ∀ a, (![o] : Fin 1 → Nat) a + S16.size a ≤ S512.size a) (Q : PUnit → sProp 𝕄) :
    iprop(inv (F := F) d L mI m0 m1 m2 m3 mR mC n0 n1 n2 n3 I t0 t1 t2 t3 o
        ∗ (inv (F := F) d L mI m0 m1 m2 m3 mR mC n0 n1 n2 n3 I t0 t1 t2 t3 (o + 16) -∗ Q ⟨⟩))
      ⊢ wp frame (wpE (defs₀ (F := F)) 𝒱₀ (thr d L) none) Set.univ
          (block (F := F) L mI m0 m1 m2 m3 mR mC n0 n1 n2 n3 o ho) Q := by
  unfold block inv
  iintro ⟨⟨HI, H0, H1, H2, H3, HR, HC, G0, G1, G2, G3⟩, Hk⟩
  sl_exec
  rw [readAt_lanes d L]
  rw [wp_assume_of _ _ _ _ ⟨chk_entry _ hI o ho, chk_entry _ hI o ho, chk_entry _ hI o ho, chk_entry _ hI o ho⟩]
  rw [wp_bind]
  iapply (wp_gatherBlock d L m0 n0 o ho (mI.view.read (Elt F) I) _ t0)
  isplitl [H0]; · iexact H0
  isplitl [G0]; · iexact G0
  iintro H0 G0
  rw [wp_bind]
  iapply (wp_gatherBlock d L m1 n1 o ho (mI.view.read (Elt F) I) _ t1)
  isplitl [H1]; · iexact H1
  isplitl [G1]; · iexact G1
  iintro H1 G1
  rw [wp_bind]
  iapply (wp_gatherBlock d L m2 n2 o ho (mI.view.read (Elt F) I) _ t2)
  isplitl [H2]; · iexact H2
  isplitl [G2]; · iexact G2
  iintro H2 G2
  rw [wp_bind]
  iapply (wp_gatherBlock d L m3 n3 o ho (mI.view.read (Elt F) I) _ t3)
  isplitl [H3]; · iexact H3
  isplitl [G3]; · iexact G3
  iintro H3 G3
  rw [wp_bind]
  iapply (wp_wordBlock d L mR o ho (mI.view.read (Elt F) I) rowW
    (rowOf (fun y : S16.Idx => (mI.view.read (Elt F) I (laneAt o ho y) : BitVec 32))) (rowOf_apply _))
  isplitl [HR]; · iexact HR
  iintro HR
  iapply (wp_wordBlock d L mC o ho (mI.view.read (Elt F) I) colW
    (colOf (fun y : S16.Idx => (mI.view.read (Elt F) I (laneAt o ho y) : BitVec 32))) (colOf_apply _))
  isplitl [HC]; · iexact HC
  iintro HC
  iapply Hk
  isplitl [HI]; · iexact HI
  isplitl [H0]; · iexact H0
  isplitl [H1]; · iexact H1
  isplitl [H2]; · iexact H2
  isplitl [H3]; · iexact H3
  isplitl [HR]; · iexact HR
  isplitl [HC]; · iexact HC
  isplitl [G0]; · iexact G0
  isplitl [G1]; · iexact G1
  isplitl [G2]; · iexact G2
  iexact G3

/-- The blocks from the `k`-th on: all their entries done. -/
theorem wp_blocks (I t0 t1 t2 t3) (hI : ∀ j, (mI.view.read (Elt F) I j : BitVec 32).toNat < 16384) (Q : PUnit → sProp 𝕄) :
    ∀ (n k : Nat) (h : k + n ≤ 32),
    iprop(inv (F := F) d L mI m0 m1 m2 m3 mR mC n0 n1 n2 n3 I t0 t1 t2 t3 (16 * k)
        ∗ (inv (F := F) d L mI m0 m1 m2 m3 mR mC n0 n1 n2 n3 I t0 t1 t2 t3 (16 * (k + n)) -∗ Q ⟨⟩))
      ⊢ wp frame (wpE (defs₀ (F := F)) 𝒱₀ (thr d L) none) Set.univ
          (blocks (F := F) L mI m0 m1 m2 m3 mR mC n0 n1 n2 n3 n k h) Q := by
  intro n
  induction n with
  | zero =>
    intro k h
    unfold blocks
    iintro ⟨Hi, Hk⟩
    sl_step
    iapply Hk $$ Hi
  | succ n ih =>
    intro k h
    unfold blocks
    rw [wp_bind]
    iintro ⟨Hi, Hk⟩
    iapply (wp_block d L mI m0 m1 m2 m3 mR mC n0 n1 n2 n3 I t0 t1 t2 t3 hI (16 * k) _)
    isplitl [Hi]; · iexact Hi
    iintro Hi
    have hk : k + 1 + n ≤ 32 := by omega
    iapply (ih (k + 1) hk)
    isplitl [Hi]; · iexact Hi
    rw [show k + 1 + n = k + (n + 1) by omega]
    iexact Hk

end Generic

end Cert.KernelIdeal.Hand
-- ==== Proof.KernelIdeal.Copy.lean ====
module

public import proofs.«01_k».proof.Proof.KernelIdeal.Tile

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords) [FloatOps F]

/-- What a thread owes and the waits it has recorded, all of them its own transfers' beyond `W`. -/
def owing (O : CellTallies nD τ sig (HIx 1)) (W : Waits sig (HIx 1)) : sProp 𝕄 :=
  iprop(∃ W', ⌜∀ p ∈ W', p ∈ W ∨ p.2 = none⌝ ∗ owes (thr d L) O W')

omit [FloatOps F] in
theorem owing_insert (O : CellTallies nD τ sig (HIx 1)) (W W' : Waits sig (HIx 1)) (hW' : ∀ p ∈ W', p ∈ W ∨ p.2 = none) (g : SemLoc sig) :
    (owes (thr d L) O (insert (g, (default : HIx 1)) W') : sProp 𝕄) ⊢ owing (F := F) d L O W := by
  unfold owing
  iintro HO
  iexists (insert (g, (default : HIx 1)) W')
  isplitr
  · ipureintro
    intro p hp
    rcases Finset.mem_insert.mp hp with hp | hp
    · exact .inr (hp ▸ rfl)
    · exact hW' p hp
  · iexact HO

omit [FloatOps F] in
theorem owing_elim (O : CellTallies nD τ sig (HIx 1)) (W : Waits sig (HIx 1)) :
    (owing (F := F) d L O W : sProp 𝕄) ⊢ iprop(∃ W', ⌜∀ p ∈ W', p ∈ W ∨ p.2 = none⌝ ∗ owes (thr d L) O W') := by
  unfold owing
  exact .rfl

omit [FloatOps F] in
/-- Two contents that read alike through a view are the same points-to of its elements. -/
theorem pointsTo_of_read {s : Shape} {e : EltTy} {sp : Space} (v : View sig .scVector sp s e) (q : PosShare TreeShare)
    (f g : Buf (Elt F) (v.loc (thr d L))) (h : v.read (Elt F) f = v.read (Elt F) g) :
    (v.loc (thr d L) ↦[v.set]{q} f : sProp 𝕄) = v.loc (thr d L) ↦[v.set]{q} g :=
  pointsTo_congr fun i hi => by
    obtain ⟨x, -, rfl⟩ := Finset.mem_map.mp hi
    exact cast_inj _ |>.mp (congrFun h x)

/-- A tile's view's part of a table. -/
abbrev tabSlice (src : Memref sig .scVector .hbm S131072 .f32) : Memref sig .scVector .hbm S16384 .f32 :=
  src.slice (Rect.unit (s := S131072) (k1_off1 L) S16384.size (k1_off1_inb L)) (fun _ => rfl)
/-- A tile's part of the indices. -/
abbrev idxSlice (src : Memref sig .scVector .hbm S16384 .i32) : Memref sig .scVector .hbm S512 .i32 :=
  src.slice (Rect.unit (s := S16384) (k1_off2 L) S512.size (k1_off2_inb L)) (fun _ => rfl)
/-- A tile's part of an output. -/
abbrev outSlice {e : EltTy} (dst : Memref sig .scVector .hbm S16384 e) : Memref sig .scVector .hbm S512 e :=
  dst.slice (Rect.unit (s := S16384) (k1_off3 L) S512.size (k1_off3_inb L)) (fun _ => rfl)

set_option maxHeartbeats 1000000 in
/-- The copy of a table in: the tile's memory holds its view's part. -/
theorem wp_copyTable (src : Memref sig .scVector .hbm S131072 .f32) (dst : Memref sig .scVector .vmem S16384 .f32)
    (hdst : dst.IsWhole) (s : DmaSems sig S_) (q : PosShare TreeShare) (t : Buf (Elt F) (src.view.loc (thr d L)))
    (O : CellTallies nD τ sig (HIx 1)) (W : Waits sig (HIx 1)) (Q : PUnit → sProp 𝕄) :
    iprop(Transfers.MayWaits (thr d L) (none : HIx 1) O ∗ (src.view.loc (thr d L) ↦{q} t)
      ∗ (∃ f, dst.view.loc (thr d L) ↦{fullShare} f) ∗ semVal (thr d L, SemLoc.dma s.sem) 0 ∗ owing (F := F) d L O W
      ∗ (Transfers.MayWaits (thr d L) (none : HIx 1) O -∗ (src.view.loc (thr d L) ↦{q} t)
          -∗ (∃ f, ⌜dst.view.read (Elt F) f = (tabSlice L src).view.read (Elt F) t⌝ ∗ dst.view.loc (thr d L) ↦{fullShare} f)
          -∗ semVal (thr d L, SemLoc.dma s.sem) 0 -∗ owing (F := F) d L O W -∗ Q ⟨⟩))
      ⊢ wp frame (wpE (defs₀ (F := F)) 𝒱₀ (thr d L) none) Set.univ (copyTable (F := F) L src dst hdst s) Q := by
  unfold copyTable
  iintro ⟨Hmw, Ht, ⟨%f, Hd⟩, Hs, HO, Hk⟩
  ihave HO' := (owing_elim d L O W) $$ HO
  icases HO' with ⟨%W', %hW', HO⟩
  sl_exec (disch := exact View.amount_pos _ _ (show 0 < S16384.numel by decide))
  sl_step
  iapply Hk $$ Hmw Ht [Hd] Hs
  · iexists _
    isplitr
    · ipureintro
      exact View.read_write_univ f _
    · iexact Hd
  · iapply owing_insert d L O W W' hW' _ $$ HO

set_option maxHeartbeats 1000000 in
/-- The copy of the tile's indices in. -/
theorem wp_copyIndex (src : Memref sig .scVector .hbm S16384 .i32) (dst : Memref sig .scVector .vmem S512 .i32)
    (hdst : dst.IsWhole) (s : DmaSems sig S_) (t : Buf (Elt F) (src.view.loc (thr d L)))
    (O : CellTallies nD τ sig (HIx 1)) (W : Waits sig (HIx 1)) (Q : PUnit → sProp 𝕄) :
    iprop(Transfers.MayWaits (thr d L) (none : HIx 1) O ∗ ((idxSlice L src).view.loc (thr d L) ↦[(idxSlice L src).view.set]{fullShare} t)
      ∗ (∃ f, dst.view.loc (thr d L) ↦{fullShare} f) ∗ semVal (thr d L, SemLoc.dma s.sem) 0 ∗ owing (F := F) d L O W
      ∗ (Transfers.MayWaits (thr d L) (none : HIx 1) O -∗ ((idxSlice L src).view.loc (thr d L) ↦[(idxSlice L src).view.set]{fullShare} t)
          -∗ (∃ f, ⌜dst.view.read (Elt F) f = (idxSlice L src).view.read (Elt F) t⌝ ∗ dst.view.loc (thr d L) ↦{fullShare} f)
          -∗ semVal (thr d L, SemLoc.dma s.sem) 0 -∗ owing (F := F) d L O W -∗ Q ⟨⟩))
      ⊢ wp frame (wpE (defs₀ (F := F)) 𝒱₀ (thr d L) none) Set.univ (copyIndex (F := F) L src dst hdst s) Q := by
  unfold copyIndex
  iintro ⟨Hmw, Ht, ⟨%f, Hd⟩, Hs, HO, Hk⟩
  ihave HO' := (owing_elim d L O W) $$ HO
  icases HO' with ⟨%W', %hW', HO⟩
  sl_exec (disch := exact View.amount_pos _ _ (show 0 < S512.numel by decide))
  sl_step
  iapply Hk $$ Hmw Ht [Hd] Hs
  · iexists _
    isplitr
    · ipureintro
      exact View.read_write_univ f _
    · iexact Hd
  · iapply owing_insert d L O W W' hW' _ $$ HO

set_option maxHeartbeats 1000000 in
/-- The copy of a tile's results out, over its part of an output: that part at `G`, when the results read as `G` there. -/
theorem wp_copyOut {e : EltTy} (he : e.bits = 32) (src : Memref sig .scVector .vmem S512 e) (hsrc : src.IsWhole)
    (dst : Memref sig .scVector .hbm S16384 e) (s : DmaSems sig S_) (r : Buf (Elt F) (src.view.loc (thr d L)))
    (G : Buf (Elt F) ((outSlice L dst).view.loc (thr d L)))
    (hG : src.view.read (Elt F) r = (outSlice L dst).view.read (Elt F) G)
    (O : CellTallies nD τ sig (HIx 1)) (W : Waits sig (HIx 1)) (Q : PUnit → sProp 𝕄) :
    iprop(Transfers.MayWaits (thr d L) (none : HIx 1) O ∗ (src.view.loc (thr d L) ↦{fullShare} r)
      ∗ (∃ f, (outSlice L dst).view.loc (thr d L) ↦[(outSlice L dst).view.set]{fullShare} f)
      ∗ semVal (thr d L, SemLoc.dma s.sem) 0 ∗ owing (F := F) d L O W
      ∗ (Transfers.MayWaits (thr d L) (none : HIx 1) O -∗ (src.view.loc (thr d L) ↦{fullShare} r)
          -∗ ((outSlice L dst).view.loc (thr d L) ↦[(outSlice L dst).view.set]{fullShare} G)
          -∗ semVal (thr d L, SemLoc.dma s.sem) 0 -∗ owing (F := F) d L O W -∗ Q ⟨⟩))
      ⊢ wp frame (wpE (defs₀ (F := F)) 𝒱₀ (thr d L) none) Set.univ (copyOut (F := F) L he src hsrc dst s) Q := by
  unfold copyOut
  iintro ⟨Hmw, Ht, ⟨%f, Hd⟩, Hs, HO, Hk⟩
  ihave HO' := (owing_elim d L O W) $$ HO
  icases HO' with ⟨%W', %hW', HO⟩
  sl_exec (disch := exact View.amount_pos _ _ (show 0 < S512.numel by decide))
  sl_step
  iapply Hk $$ Hmw Ht [Hd] Hs
  · iapply (Entails.of_eq (pointsTo_of_read d L (outSlice L dst).view fullShare _ G ((View.read_writes_whole _ f _).trans hG)))
    iexact Hd
  · iapply owing_insert d L O W W' hW' _ $$ HO

end Cert.KernelIdeal.Hand
-- ==== Proof.KernelIdeal.TileBody.lean ====
module

public import proofs.«01_k».proof.Proof.KernelIdeal.Copy

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords) [FloatOps F]

omit [FloatOps F] in
/-- A read of all of a memref is the memref's read. -/
theorem read_access_all {κ : Kind} {sp : Space} {s : Shape} {e : EltTy} (m : Memref sig κ sp s e) (f : m.view.ty.Contents (Elt F)) :
    (m.access (.whole s)).read (Elt F) f = m.view.read (Elt F) f := by
  funext x
  show _root_.cast _ (f (m.view.emb ((Rect.whole s).emb x))) = _root_.cast _ (f (m.view.emb x))
  rw [Rect.emb_whole_apply]

omit [FloatOps F] in
/-- All entries done: the buffer reads as `G` of the indices. -/
theorem Done.all {e : EltTy} {I : S512.Idx → BitVec 32} {G : BitVec 32 → Elt F e} {f : S512.Idx → Elt F e} (h : Done (F := F) I G 512 f) :
    f = fun j => G (I j) := funext fun j => h j (j 0).isLt

/-- A buffer of the tile's, at whatever it holds. -/
def some_ {sp : Space} {s : Shape} {e : EltTy} (m : Memref sig .scVector sp s e) : sProp 𝕄 :=
  iprop(∃ f, m.view.loc (thr d L) ↦{fullShare} f)

omit [FloatOps F] in
theorem some_intro {sp : Space} {s : Shape} {e : EltTy} (m : Memref sig .scVector sp s e) (f : Buf (Elt F) (m.view.loc (thr d L))) :
    (m.view.loc (thr d L) ↦{fullShare} f : sProp 𝕄) ⊢ some_ (F := F) d L m := by
  unfold some_
  iintro H
  iexists f
  iexact H

section Generic

variable (a2 : Memref sig .scVector .hbm S16384 .i32)
  (a3 a4 a5 a6 : Memref sig .scVector .hbm S131072 .f32)
  (a7 a8 : Memref sig .scVector .hbm S16384 .i32)
  (a9 a10 a11 a12 : Memref sig .scVector .hbm S16384 .f32)
  (a13 : Memref sig .scVector .vmem S512 .i32) (h13 : a13.IsWhole)
  (a14 : Memref sig .scVector .vmem S16384 .f32) (h14 : a14.IsWhole)
  (a15 : Memref sig .scVector .vmem S16384 .f32) (h15 : a15.IsWhole)
  (a16 : Memref sig .scVector .vmem S16384 .f32) (h16 : a16.IsWhole)
  (a17 : Memref sig .scVector .vmem S16384 .f32) (h17 : a17.IsWhole)
  (a18 : Memref sig .scVector .vmem S512 .i32) (h18 : a18.IsWhole)
  (a19 : Memref sig .scVector .vmem S512 .i32) (h19 : a19.IsWhole)
  (a20 : Memref sig .scVector .vmem S512 .f32) (h20 : a20.IsWhole)
  (a21 : Memref sig .scVector .vmem S512 .f32) (h21 : a21.IsWhole)
  (a22 : Memref sig .scVector .vmem S512 .f32) (h22 : a22.IsWhole)
  (a23 : Memref sig .scVector .vmem S512 .f32) (h23 : a23.IsWhole)
  (s0 s1 s2 s3 s4 s5 s6 s7 s8 s9 s10 : DmaSems sig S_)

/-- The tile's own buffers, at whatever they hold. -/
def scratch : sProp 𝕄 :=
  iprop(some_ (F := F) d L a13 ∗ some_ (F := F) d L a14 ∗ some_ (F := F) d L a15 ∗ some_ (F := F) d L a16 ∗ some_ (F := F) d L a17 ∗ some_ (F := F) d L a18 ∗ some_ (F := F) d L a19 ∗ some_ (F := F) d L a20 ∗ some_ (F := F) d L a21 ∗ some_ (F := F) d L a22 ∗ some_ (F := F) d L a23)

/-- The tile's own semaphores, at zero. -/
def zeros : sProp 𝕄 :=
  iprop(semVal (thr d L, SemLoc.dma s0.sem) 0 ∗ semVal (thr d L, SemLoc.dma s1.sem) 0 ∗ semVal (thr d L, SemLoc.dma s2.sem) 0 ∗ semVal (thr d L, SemLoc.dma s3.sem) 0 ∗ semVal (thr d L, SemLoc.dma s4.sem) 0 ∗ semVal (thr d L, SemLoc.dma s5.sem) 0 ∗ semVal (thr d L, SemLoc.dma s6.sem) 0 ∗ semVal (thr d L, SemLoc.dma s7.sem) 0 ∗ semVal (thr d L, SemLoc.dma s8.sem) 0 ∗ semVal (thr d L, SemLoc.dma s9.sem) 0 ∗ semVal (thr d L, SemLoc.dma s10.sem) 0)

/-- What a tile is handed of the tables and the indices, and hands back. -/
def inputs (q : PosShare TreeShare) (I : Buf (Elt F) (a2.view.loc (thr d L)))
    (T0 : Buf (Elt F) (a3.view.loc (thr d L)))
    (T1 : Buf (Elt F) (a4.view.loc (thr d L)))
    (T2 : Buf (Elt F) (a5.view.loc (thr d L)))
    (T3 : Buf (Elt F) (a6.view.loc (thr d L))) : sProp 𝕄 :=
  iprop(((idxSlice L a2).view.loc (thr d L) ↦[(idxSlice L a2).view.set]{fullShare} I)
    ∗ (a3.view.loc (thr d L) ↦{q} T0) ∗ (a4.view.loc (thr d L) ↦{q} T1) ∗ (a5.view.loc (thr d L) ↦{q} T2) ∗ (a6.view.loc (thr d L) ↦{q} T3))

/-- A tile's part of one output, at whatever it holds. -/
def somePart {e : EltTy} (m : Memref sig .scVector .hbm S16384 e) : sProp 𝕄 :=
  iprop(∃ f, (outSlice L m).view.loc (thr d L) ↦[(outSlice L m).view.set]{fullShare} f)

/-- A tile's parts of the outputs, at whatever they hold. -/
def outsAny : sProp 𝕄 :=
  iprop(somePart (F := F) d L a7 ∗ somePart (F := F) d L a8 ∗ somePart (F := F) d L a9 ∗ somePart (F := F) d L a10 ∗ somePart (F := F) d L a11 ∗ somePart (F := F) d L a12)

/-- A tile's parts of the outputs, at given contents. -/
def outsAt (G0 : Buf (Elt F) ((outSlice L a7).view.loc (thr d L)))  (G1 : Buf (Elt F) ((outSlice L a8).view.loc (thr d L)))  (G2 : Buf (Elt F) ((outSlice L a9).view.loc (thr d L)))  (G3 : Buf (Elt F) ((outSlice L a10).view.loc (thr d L)))  (G4 : Buf (Elt F) ((outSlice L a11).view.loc (thr d L)))  (G5 : Buf (Elt F) ((outSlice L a12).view.loc (thr d L))) : sProp 𝕄 :=
  iprop(((outSlice L a7).view.loc (thr d L) ↦[(outSlice L a7).view.set]{fullShare} G0)
    ∗ ((outSlice L a8).view.loc (thr d L) ↦[(outSlice L a8).view.set]{fullShare} G1)
    ∗ ((outSlice L a9).view.loc (thr d L) ↦[(outSlice L a9).view.set]{fullShare} G2)
    ∗ ((outSlice L a10).view.loc (thr d L) ↦[(outSlice L a10).view.set]{fullShare} G3)
    ∗ ((outSlice L a11).view.loc (thr d L) ↦[(outSlice L a11).view.set]{fullShare} G4)
    ∗ ((outSlice L a12).view.loc (thr d L) ↦[(outSlice L a12).view.set]{fullShare} G5))

set_option maxHeartbeats 2000000 in
/-- A tile's whole program: its parts of the outputs are the rows, the columns and the tables' entries of its indices. -/
theorem wp_tileProg (q : PosShare TreeShare) (I T0 T1 T2 T3)
    (hI : ∀ j, ((idxSlice L a2).view.read (Elt F) I j : BitVec 32).toNat < 16384) (G0 G1 G2 G3 G4 G5)
    (hG0 : (outSlice L a7).view.read (Elt F) G0 = fun j => rowW ((idxSlice L a2).view.read (Elt F) I j))
    (hG1 : (outSlice L a8).view.read (Elt F) G1 = fun j => colW ((idxSlice L a2).view.read (Elt F) I j))
    (hG2 : (outSlice L a9).view.read (Elt F) G2 = fun j => entry ((tabSlice L a3).view.read (Elt F) T0) ((idxSlice L a2).view.read (Elt F) I j))
    (hG3 : (outSlice L a10).view.read (Elt F) G3 = fun j => entry ((tabSlice L a4).view.read (Elt F) T1) ((idxSlice L a2).view.read (Elt F) I j))
    (hG4 : (outSlice L a11).view.read (Elt F) G4 = fun j => entry ((tabSlice L a5).view.read (Elt F) T2) ((idxSlice L a2).view.read (Elt F) I j))
    (hG5 : (outSlice L a12).view.read (Elt F) G5 = fun j => entry ((tabSlice L a6).view.read (Elt F) T3) ((idxSlice L a2).view.read (Elt F) I j))
    (O : CellTallies nD τ sig (HIx 1)) (W : Waits sig (HIx 1)) (Q : PUnit → sProp 𝕄) :
    iprop(Transfers.MayWaits (thr d L) (none : HIx 1) O ∗ inputs (F := F) d L a2 a3 a4 a5 a6 q I T0 T1 T2 T3
      ∗ outsAny (F := F) d L a7 a8 a9 a10 a11 a12
      ∗ scratch (F := F) d L a13 a14 a15 a16 a17 a18 a19 a20 a21 a22 a23 ∗ zeros (F := F) d L s0 s1 s2 s3 s4 s5 s6 s7 s8 s9 s10
      ∗ owing (F := F) d L O W
      ∗ (inputs (F := F) d L a2 a3 a4 a5 a6 q I T0 T1 T2 T3 -∗ outsAt (F := F) d L a7 a8 a9 a10 a11 a12 G0 G1 G2 G3 G4 G5
        -∗ scratch (F := F) d L a13 a14 a15 a16 a17 a18 a19 a20 a21 a22 a23 -∗ zeros (F := F) d L s0 s1 s2 s3 s4 s5 s6 s7 s8 s9 s10
        -∗ owing (F := F) d L O W -∗ Q ⟨⟩))
      ⊢ wp frame (wpE (defs₀ (F := F)) 𝒱₀ (thr d L) none) Set.univ
          (tileProg (F := F) L a2 a3 a4 a5 a6 a7 a8 a9 a10 a11 a12 a13 h13 a14 h14 a15 h15 a16 h16 a17 h17 a18 h18 a19 h19
            a20 h20 a21 h21 a22 h22 a23 h23 s0 s1 s2 s3 s4 s5 s6 s7 s8 s9 s10) Q := by
  unfold tileProg inputs outsAny scratch zeros
  simp only [wp_bind]
  iintro ⟨Hmw, ⟨HI, HT0, HT1, HT2, HT3⟩, ⟨P0, P1, P2, P3, P4, P5⟩, ⟨B13, B14, B15, B16, B17, B18, B19, B20, B21, B22, B23⟩,
    ⟨S0, S1, S2, S3, S4, S5, S6, S7, S8, S9, S10⟩, HO, Hk⟩
  iapply (wp_copyTable d L a3 a14 h14 s0 q T0 O W)
  isplitl [Hmw]; · iexact Hmw
  isplitl [HT0]; · iexact HT0
  isplitl [B14]; · unfold some_; iexact B14
  isplitl [S0]; · iexact S0
  isplitl [HO]; · iexact HO
  iintro Hmw HT0 ⟨%t0, %ht0, B14⟩ S0 HO
  iapply (wp_copyTable d L a4 a15 h15 s1 q T1 O W)
  isplitl [Hmw]; · iexact Hmw
  isplitl [HT1]; · iexact HT1
  isplitl [B15]; · unfold some_; iexact B15
  isplitl [S1]; · iexact S1
  isplitl [HO]; · iexact HO
  iintro Hmw HT1 ⟨%t1, %ht1, B15⟩ S1 HO
  iapply (wp_copyTable d L a5 a16 h16 s2 q T2 O W)
  isplitl [Hmw]; · iexact Hmw
  isplitl [HT2]; · iexact HT2
  isplitl [B16]; · unfold some_; iexact B16
  isplitl [S2]; · iexact S2
  isplitl [HO]; · iexact HO
  iintro Hmw HT2 ⟨%t2, %ht2, B16⟩ S2 HO
  iapply (wp_copyTable d L a6 a17 h17 s3 q T3 O W)
  isplitl [Hmw]; · iexact Hmw
  isplitl [HT3]; · iexact HT3
  isplitl [B17]; · unfold some_; iexact B17
  isplitl [S3]; · iexact S3
  isplitl [HO]; · iexact HO
  iintro Hmw HT3 ⟨%t3, %ht3, B17⟩ S3 HO
  iapply (wp_copyIndex d L a2 a13 h13 s4 I O W)
  isplitl [Hmw]; · iexact Hmw
  isplitl [HI]; · iexact HI
  isplitl [B13]; · unfold some_; iexact B13
  isplitl [S4]; · iexact S4
  isplitl [HO]; · iexact HO
  iintro Hmw HI ⟨%i, %hi, B13⟩ S4 HO
  unfold some_
  icases B18 with ⟨%b18, B18⟩
  icases B19 with ⟨%b19, B19⟩
  icases B20 with ⟨%b20, B20⟩
  icases B21 with ⟨%b21, B21⟩
  icases B22 with ⟨%b22, B22⟩
  icases B23 with ⟨%b23, B23⟩
  have hi' : ∀ j, (a13.view.read (Elt F) i j : BitVec 32).toNat < 16384 := by rw [hi]; exact hI
  iapply (wp_blocks d L a13 a14 a15 a16 a17 a18 a19 a20 a21 a22 a23 i t0 t1 t2 t3 hi' _ 32 0 (Nat.le_refl _))
  isplitl [B13 B14 B15 B16 B17 B18 B19 B20 B21 B22 B23]
  · unfold inv part
    isplitl [B13]; · iexact B13
    isplitl [B14]; · iexact B14
    isplitl [B15]; · iexact B15
    isplitl [B16]; · iexact B16
    isplitl [B17]; · iexact B17
    isplitl [B18]
    · iexists b18; isplitr; · ipureintro; exact fun j hj => absurd hj (Nat.not_lt_zero _)
      iexact B18
    isplitl [B19]
    · iexists b19; isplitr; · ipureintro; exact fun j hj => absurd hj (Nat.not_lt_zero _)
      iexact B19
    isplitl [B20]
    · iexists b20; isplitr; · ipureintro; exact fun j hj => absurd hj (Nat.not_lt_zero _)
      iexact B20
    isplitl [B21]
    · iexists b21; isplitr; · ipureintro; exact fun j hj => absurd hj (Nat.not_lt_zero _)
      iexact B21
    isplitl [B22]
    · iexists b22; isplitr; · ipureintro; exact fun j hj => absurd hj (Nat.not_lt_zero _)
      iexact B22
    · iexists b23; isplitr; · ipureintro; exact fun j hj => absurd hj (Nat.not_lt_zero _)
      iexact B23
  unfold inv part
  iintro ⟨B13, B14, B15, B16, B17, ⟨%r0, %hr0, B18⟩, ⟨%r1, %hr1, B19⟩, ⟨%r2, %hr2, B20⟩, ⟨%r3, %hr3, B21⟩, ⟨%r4, %hr4, B22⟩, ⟨%r5, %hr5, B23⟩⟩
  rw [hi] at hr0 hr1 hr2 hr3 hr4 hr5
  rw [read_access_all, ht0] at hr2
  rw [read_access_all, ht1] at hr3
  rw [read_access_all, ht2] at hr4
  rw [read_access_all, ht3] at hr5
  iapply (wp_copyOut d L rfl a18 h18 a7 s5 r0 G0 (hr0.all.trans hG0.symm) O W)
  isplitl [Hmw]; · iexact Hmw
  isplitl [B18]; · iexact B18
  isplitl [P0]; · unfold somePart; iexact P0
  isplitl [S5]; · iexact S5
  isplitl [HO]; · iexact HO
  iintro Hmw B18 P0 S5 HO
  iapply (wp_copyOut d L rfl a19 h19 a8 s6 r1 G1 (hr1.all.trans hG1.symm) O W)
  isplitl [Hmw]; · iexact Hmw
  isplitl [B19]; · iexact B19
  isplitl [P1]; · unfold somePart; iexact P1
  isplitl [S6]; · iexact S6
  isplitl [HO]; · iexact HO
  iintro Hmw B19 P1 S6 HO
  iapply (wp_copyOut d L rfl a20 h20 a9 s7 r2 G2 (hr2.all.trans hG2.symm) O W)
  isplitl [Hmw]; · iexact Hmw
  isplitl [B20]; · iexact B20
  isplitl [P2]; · unfold somePart; iexact P2
  isplitl [S7]; · iexact S7
  isplitl [HO]; · iexact HO
  iintro Hmw B20 P2 S7 HO
  iapply (wp_copyOut d L rfl a21 h21 a10 s8 r3 G3 (hr3.all.trans hG3.symm) O W)
  isplitl [Hmw]; · iexact Hmw
  isplitl [B21]; · iexact B21
  isplitl [P3]; · unfold somePart; iexact P3
  isplitl [S8]; · iexact S8
  isplitl [HO]; · iexact HO
  iintro Hmw B21 P3 S8 HO
  iapply (wp_copyOut d L rfl a22 h22 a11 s9 r4 G4 (hr4.all.trans hG4.symm) O W)
  isplitl [Hmw]; · iexact Hmw
  isplitl [B22]; · iexact B22
  isplitl [P4]; · unfold somePart; iexact P4
  isplitl [S9]; · iexact S9
  isplitl [HO]; · iexact HO
  iintro Hmw B22 P4 S9 HO
  iapply (wp_copyOut d L rfl a23 h23 a12 s10 r5 G5 (hr5.all.trans hG5.symm) O W)
  isplitl [Hmw]; · iexact Hmw
  isplitl [B23]; · iexact B23
  isplitl [P5]; · unfold somePart; iexact P5
  isplitl [S10]; · iexact S10
  isplitl [HO]; · iexact HO
  iintro Hmw B23 P5 S10 HO
  iapply Hk $$ [HI HT0 HT1 HT2 HT3] [P0 P1 P2 P3 P4 P5] [B13 B14 B15 B16 B17 B18 B19 B20 B21 B22 B23] [S0 S1 S2 S3 S4 S5 S6 S7 S8 S9 S10] HO
  · isplitl [HI]; · iexact HI
    isplitl [HT0]; · iexact HT0
    isplitl [HT1]; · iexact HT1
    isplitl [HT2]; · iexact HT2
    iexact HT3
  · unfold outsAt
    isplitl [P0]; · iexact P0
    isplitl [P1]; · iexact P1
    isplitl [P2]; · iexact P2
    isplitl [P3]; · iexact P3
    isplitl [P4]; · iexact P4
    iexact P5
  · isplitl [B13]; · iexists _; iexact B13
    isplitl [B14]; · iexists _; iexact B14
    isplitl [B15]; · iexists _; iexact B15
    isplitl [B16]; · iexists _; iexact B16
    isplitl [B17]; · iexists _; iexact B17
    isplitl [B18]; · iexists _; iexact B18
    isplitl [B19]; · iexists _; iexact B19
    isplitl [B20]; · iexists _; iexact B20
    isplitl [B21]; · iexists _; iexact B21
    isplitl [B22]; · iexists _; iexact B22
    iexists _; iexact B23
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10

end Generic

end Cert.KernelIdeal.Hand
-- ==== Proof.KernelIdeal.Region.lean ====
module

public import proofs.«01_k».proof.Proof.KernelIdeal.TileBody
public import Idealize.ShloMosaic.Lib.Pipeline.FrameBody
public import Idealize.ShloMosaic.Lib.Pipeline.RegionsLoop

@[expose] public section

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The search kernel's body -/

/-- A memref's buffer on core `c`, whole, at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

omit [FloatOps F] in
/-- A load of all of a memref is the memref's read. -/
theorem readAt_full {κ : Kind} {sp : Space} {s : Shape} {e : EltTy} (m : Memref sig κ sp s e) (f : m.view.ty.Contents (Elt F))
    {off : Fin s.rank → ℕ} (h : off = fun _ => 0) (inb : ∀ a, off a + s.size a ≤ s.size a) :
    m.view.readAt (Elt F) (Rect.unit (s := s) off s.size inb).toLoadRect f = m.view.read (Elt F) f := by
  subst h
  exact read_access_all m f

omit [FloatOps F] in
/-- After a store to all of a memref, it reads as what was stored. -/
theorem read_writes_full {κ : Kind} {sp : Space} {s : Shape} {e : EltTy} (m : Memref sig κ sp s e) (f : m.view.ty.Contents (Elt F))
    {off : Fin s.rank → ℕ} (h : off = fun _ => 0) (inb : ∀ a, off a + s.size a ≤ s.size a) (w : s.Idx → Elt F e) :
    m.view.read (Elt F) (m.view.writes (Elt F) f [⟨Rect.unit (s := s) off s.size inb, w⟩]) = w := by
  subst h
  funext y
  exact View.read_writes_cons_hit m.view f (Rect.whole s) w [] y y (Rect.emb_whole_apply s y)

set_option maxHeartbeats 1000000 in
/-- One block of the search: the queries and the keys read, the result's buffer written with the block's answer. -/
theorem wp_search (c : Dev nD) (i : grid0.Coords) (M0 : Memref sig .tc .vmem S256x3 .f32) (h0 : M0.IsWhole)
    (M1 : Memref sig .tc .vmem S1x3x16384 .f32) (h1 : M1.IsWhole) (M2 : Memref sig .tc .vmem S1x256x1 .i32) (h2 : M2.IsWhole)
    (f0 : Buf (Elt F) (M0.view.loc (c : Thread nD τ))) (f1 : Buf (Elt F) (M1.view.loc (c : Thread nD τ)))
    (f2 : Buf (Elt F) (M2.view.loc (c : Thread nD τ))) (Q : PUnit → sProp 𝕄) :
    iprop(pt c M0 f0 ∗ pt c M1 f1 ∗ pt c M2 f2
        ∗ (iprop(pt c M0 f0 ∗ pt c M1 f1 ∗ ∃ g, ⌜M2.view.read (Elt F) g = k0_pay1 (M0.view.read (Elt F) f0) (M1.view.read (Elt F) f1)⌝ ∗ pt c M2 g) -∗ Q ⟨⟩))
      ⊢ wp frame (wpE (defs₀ (F := F)) 𝒱₀ (c : Thread nD τ) none) Set.univ (cc0__nn_body (F := F) i M0 h0 M1 h1 M2 h2) Q := by
  rw [cc0__nn_body_eq_skeleton]
  unfold cc0__nn_body_skel
  iintro ⟨H0, H1, H2, Hk⟩
  sl_exec!
  sl_step
  iapply Hk
  isplitl [H0]; · iexact H0
  isplitl [H1]; · iexact H1
  iexists _
  isplitr
  swap
  · iexact H2
  · ipureintro
    refine (read_writes_full M2 _ (by decide) _ _).trans ?_
    exact congrArg₂ k0_pay1 (readAt_full M0 f0 (by decide) _) (readAt_full M1 f1 (by decide) _)

/-- The same over what each memref reads, beside anything else. -/
theorem wp_search_owns (c : Dev nD) (i : grid0.Coords) (M0 : Memref sig .tc .vmem S256x3 .f32) (h0 : M0.IsWhole)
    (M1 : Memref sig .tc .vmem S1x3x16384 .f32) (h1 : M1.IsWhole) (M2 : Memref sig .tc .vmem S1x256x1 .i32) (h2 : M2.IsWhole)
    (X0 : S256x3.Idx → F .f32) (X1 : S1x3x16384.Idx → F .f32) {B0 : (S256x3.Idx → F .f32) → S256x3.Idx → F .f32}
    {B1 : (S1x3x16384.Idx → F .f32) → S1x3x16384.Idx → F .f32} (e0 : ∀ x, B0 x = X0) (e1 : ∀ x, B1 x = X1)
    (B2 : (S1x256x1.Idx → BitVec 32) → S1x256x1.Idx → BitVec 32) (P Q : sProp 𝕄) :
    iprop(P ∗ Q ∗ (∃ x, owns (c : Thread nD τ) M0 fullShare (B0 x)) ∗ (∃ x, owns (c : Thread nD τ) M1 fullShare (B1 x))
        ∗ (∃ x, owns (c : Thread nD τ) (Val := Elt F) M2 fullShare (B2 x)))
      ⊢ wp frame (wpE (defs₀ (F := F)) 𝒱₀ (c : Thread nD τ) none) Set.univ (cc0__nn_body (F := F) i M0 h0 M1 h1 M2 h2) fun _ =>
        iprop(P ∗ Q ∗ owns (c : Thread nD τ) M0 fullShare X0 ∗ owns (c : Thread nD τ) M1 fullShare X1
          ∗ owns (c : Thread nD τ) (Val := Elt F) M2 fullShare (k0_pay1 X0 X1)) := by
  unfold owns
  rw [h0.set_eq_univ, h1.set_eq_univ, h2.set_eq_univ]
  iintro ⟨HΦ, Howes, ⟨%x0, %f0, %e0', H0⟩, ⟨%x1, %f1, %e1', H1⟩, ⟨%x2, %f2, -, H2⟩⟩
  rw [e0] at e0'
  rw [e1] at e1'
  iapply (wp_search c i M0 h0 M1 h1 M2 h2 f0 f1 f2 _)
  isplitl [H0]; · iexact H0
  isplitl [H1]; · iexact H1
  isplitl [H2]; · iexact H2
  iintro ⟨H0, H1, ⟨%g, %eg, H2⟩⟩
  rw [e0', e1'] at eg
  isplitl [HΦ]; · iexact HΦ
  isplitl [Howes]; · iexact Howes
  isplitl [H0]
  · iexists f0
    isplitr
    · ipureintro; exact e0'
    · iexact H0
  isplitl [H1]
  · iexists f1
    isplitr
    · ipureintro; exact e1'
    · iexact H1
  iexists g
  isplitr
  · ipureintro; exact eg
  · iexact H2

/-! ## The proof data of the search -/

variable (V : (c : Dev nD) → (b : Ref sig .tc) → Buf (Elt F) ((c : Thread nD τ).loc b))

/-- The queries' block at a point, and the keys'. -/
abbrev qBlk (c : Dev nD) (t : Fin cfg0.N) : S256x3.Idx → F .f32 := ((cfg0.win 0).blk t).view.read (Elt F) (V c main_v12)
abbrev kBlk (c : Dev nD) (t : Fin cfg0.N) : S1x3x16384.Idx → F .f32 := ((cfg0.win 1).blk t).view.read (Elt F) (V c main_v16)

/-- What the core owes while the search runs, and the bound on what it has waited for. -/
abbrev owe (c : Dev nD) : CellTallies nD τ sig (HIx 1) := (K (F := F)).Otc c 0
abbrev below (c : Dev nD) : Set (SemLoc sig × HIx 1) := {p | (K (F := F)).lev (T c, p.1) p.2 ≤ 8 * (SparseCore.Cfg.Blocks.fst (Q := 1) (N := 1) 0)}

/-- The search from the arrays at `V`: the inputs' blocks stay, the result's buffer takes the block's answer. -/
def dat (c : Dev nD) : Dat τ (Elt F) (HIx 1) ℕ UU ℕ cfg0 c where
  A w := V c (Pipeline.arrRef spec0 w)
  after w t := match w with
    | ⟨0, _⟩ => qBlk V c t
    | ⟨1, _⟩ => kBlk V c t
    | ⟨2, _⟩ => k0_pay1 (qBlk V c t) (kBlk V c t)
    | ⟨_ + 3, h⟩ => absurd h (Nat.not_lt.2 (Nat.le_add_left _ _))
  Φ _ := Pipeline.scopedRest (Ix := HIx 1) (Name := ℕ) (U := UU) (Lvl := ℕ) (Val := Elt F) spec0 c
  q _ := fullShare
  owed _ := owe (F := F) c
  recorded _ := below (F := F) c

theorem before_q (c : Dev nD) (t : Fin cfg0.N) (x : (cfg0.win 0).block.Idx → Elt F (cfg0.win 0).elt) : (dat V c).before 0 t x = qBlk V c t :=
  (dat V c).before_in_eq_fetched 0 rfl (fun _ => rfl) (fun _ _ _ => rfl) (fun _ => rfl) t x

theorem before_k (c : Dev nD) (t : Fin cfg0.N) (x : (cfg0.win 1).block.Idx → Elt F (cfg0.win 1).elt) : (dat V c).before 1 t x = kBlk V c t :=
  (dat V c).before_in_eq_fetched 1 rfl (fun _ => rfl) (fun _ _ _ => rfl) (fun _ => rfl) t x

set_option maxRecDepth 20000 in
attribute [local irreducible] k0_pay1 cc0__nn_body in
/-- The body at every point. -/
theorem body_obligation (c : Dev nD) : BodyObligation (dat V c) (defs₀ (F := F)) 𝒱₀ none Set.univ := fun t => by
  rw [bigSep_W0, bigSep_W0]
  exact wp_search_owns c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (qBlk V c t) (kBlk V c t) (before_q V c t) (before_k V c t) (fun x => (dat V c).before 2 t x)
    ((dat V c).Φ t.castSucc) ((dat V c).owesAt none t.castSucc)

/-! ## The search as one step of the host program -/

abbrev adm : (p : Fin 1) → (pcfgs (F := F) p).Adm := fun p => (cfgs p).toPCfg_adm

/-- The proof data of the one pipeline. -/
def pdats : (p : Fin 1) → (c : Dev nD) → Dat τ (Elt F) (HIx 1) ℕ UU ℕ (Pipeline.pin (pcfgs (F := F)) adm p) c
  | ⟨0, _⟩ => fun c => dat V c
  | ⟨_ + 1, h⟩ => absurd h (Nat.not_lt.2 (Nat.le_add_left _ _))

omit [FloatOps F] in
/-- The core owes nothing at the kernels' own index. -/
theorem owe_none (c : Dev nD) (g : GSem nD τ sig) : owe (F := F) c g none = 0 := by
  unfold owe SparseCore.Cfg.Otc
  simp only [Finset.sum_apply, Finsupp.coe_finset_sum]
  refine Finset.sum_eq_zero fun q _ => ?_
  split
  · simp only [Finset.sum_apply, Finsupp.coe_finset_sum]
    exact Finset.sum_eq_zero fun i _ => by rw [tallyAt_apply, if_neg (fun e => nomatch e.2)]
  · rfl

/-- What the core holds of its debts around the search. -/
abbrev debts (c : Dev nD) : sProp 𝕄 := iprop(∃ W, ⌜(K (F := F)).WBelow (T c) W (8 * (SparseCore.Cfg.Blocks.fst (Q := 1) (N := 1) 0))⌝ ∗ owes (T c) (owe (F := F) c) W)

/-- The search's result, as the write-backs leave it. -/
def searched (c : Dev nD) : Buf (Elt F) ((c : Thread nD τ).loc main_v17) := (dat V c).arrAt 2 cfg0.N

variable (Vp : (c : Dev nD) → (b : Ref sig .tc) → Buf (Elt F) ((c : Thread nD τ).loc b))

set_option backward.isDefEq.respectTransparency.types false in
/-- The search over every host array, from `V` to `Vp`, which differs from it in the result only. -/
def region (hVp_out : ∀ c, Vp c main_v17 = searched V c) (hVp_ne : ∀ c (b : Ref sig .tc), b ≠ main_v17 → Vp c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ 0 c fun w s t => (K (F := F)).mayWait_none _ (owe_none c)
  pre c := iprop(unscopedBufs c (V c) ∗ debts c)
  post c := iprop(unscopedBufs c (Vp c) ∗ debts c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W
      isplitr
      · ipureintro; exact fun p hp => Or.inl (hW p hp)
      · iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_v12 (by decide)).symm
        · exact ((pdats V 0 c).arrAt_in 1 rfl _).trans (hVp_ne c main_v16 (by decide)).symm
        · exact (hVp_out c).symm)
      (fun b hb => hVp_ne c b fun h => hb (h ▸ Finset.mem_image.mpr ⟨2, Finset.mem_univ _, rfl⟩))
    iintro ⟨Ha, ⟨%W, %hW, HO⟩, -, Hrest⟩
    imodintro
    isplitl [Ha Hrest]
    · iapply hjoin
      isplitl [Ha]; · iexact Ha
      iexact Hrest
    iexists W
    isplitr
    · ipureintro
      intro p hp
      rcases hW hp with h | ⟨w, s, rfl⟩
      · exact h
      · exact Nat.zero_le _
    · iexact HO

end Cert.KernelIdeal.Hand
-- ==== Proof.KernelIdeal.Search.lean ====
module

public import proofs.«01_k».proof.Proof.KernelIdeal.Near
public import proofs.«01_k».proof.Proof.KernelIdeal.Region

@[expose] public section

/-! # The search's result, element by element -/

noncomputable section

namespace Cert.KernelIdeal.Hand

open Cert.KernelIdeal Cert.KernelIdeal.Gen Cert.Least
open Idealize.ShloMosaic Idealize.ShloMosaic.TcCoe
open Idealize.ShloMosaic.Pipeline (Dat Window)

/-- The number of a grid point is its two coordinates' digits. -/
theorem grid_coords (t : Fin grid0.N) : (grid0.coords t 0).val = t.val / 8 ∧ (grid0.coords t 1).val = t.val % 8 := by
  have hN : t.val < 56 := t.isLt
  constructor
  · rw [Pipeline.Grid.coords_val t 0 (S := 8) (B := 7) (by decide) rfl]; omega
  · rw [Pipeline.Grid.coords_val t 1 (S := 1) (B := 8) (by decide) rfl]; omega

/-- Which block of each array a point takes: the queries' block by the second coordinate, the keys' by the
    first, the result's by both. -/
theorem index_q (t : Fin cfg0.N) : (cfg0.win 0).index t 0 = t.val % 8 ∧ (cfg0.win 0).index t 1 = 0 := by
  have hN : t.val < 56 := t.isLt
  obtain ⟨h0, h1⟩ := grid_coords t
  refine ⟨?_, rfl⟩
  show (BitVec.ofNat 32 (grid0.coords t 1).val).toNat = _
  rw [h1, BitVec.toNat_ofNat]; omega

theorem index_k (t : Fin cfg0.N) : (cfg0.win 1).index t 0 = t.val / 8 ∧ (cfg0.win 1).index t 1 = 0 ∧ (cfg0.win 1).index t 2 = 0 := by
  have hN : t.val < 56 := t.isLt
  obtain ⟨h0, h1⟩ := grid_coords t
  refine ⟨?_, rfl, rfl⟩
  show (BitVec.ofNat 32 (grid0.coords t 0).val).toNat = _
  rw [h0, BitVec.toNat_ofNat]; omega

theorem index_o (t : Fin cfg0.N) : (cfg0.win 2).index t 0 = t.val / 8 ∧ (cfg0.win 2).index t 1 = t.val % 8 ∧ (cfg0.win 2).index t 2 = 0 := by
  have hN : t.val < 56 := t.isLt
  obtain ⟨h0, h1⟩ := grid_coords t
  refine ⟨?_, ?_, rfl⟩
  · show (BitVec.ofNat 32 (grid0.coords t 0).val).toNat = _
    rw [h0, BitVec.toNat_ofNat]; omega
  · show (BitVec.ofNat 32 (grid0.coords t 1).val).toNat = _
    rw [h1, BitVec.toNat_ofNat]; omega

variable (V : (c : Dev nD) → (b : Ref sig .tc) → Buf (Elt Ideal) ((c : Thread nD τ).loc b))

/-- The word at view `v` and query `r` names the first of the view's points nearest to the query. -/
def Nearest (Q : S2048x3.Idx → EReal) (K : S7x3x16384.Idx → EReal) (v : Fin 7) (r : Fin 2048) (w : BitVec 32) : Prop :=
  First (fun n : Fin 16384 => dist (fun a => Q (ix2 r a)) (fun a => K (ix3 v a n))) w

/-- A query of a block is the array's at the block's place. -/
theorem qBlk_at (c : Dev nD) (t : Fin cfg0.N) (r : Fin 256) (a : Fin 3) (r' : Fin 2048) (h : r'.val = t.val % 8 * 256 + r.val) :
    qBlk V c t (ix2 r a) = (V c main_v12 : S2048x3.Idx → EReal) (ix2 r' a) := by
  show (V c main_v12 : S2048x3.Idx → EReal) (((cfg0.win 0).rect t).emb (ix2 r a)) = _
  congr 1
  funext b
  apply Fin.ext
  have e := (cfg0.win 0).rect_emb_val t (ix2 r a) b
  refine e.trans ?_
  obtain ⟨h0, h1⟩ := index_q t
  fin_cases b
  · rw [show (⟨0, by decide⟩ : Fin 2) = 0 from rfl]; erw [h0]; exact h.symm
  · erw [h1]; exact Nat.zero_add _

theorem kBlk_at (c : Dev nD) (t : Fin cfg0.N) (a : Fin 3) (n : Fin 16384) (v : Fin 7) (h : v.val = t.val / 8) :
    kBlk V c t (ix3 0 a n) = (V c main_v16 : S7x3x16384.Idx → EReal) (ix3 v a n) := by
  show (V c main_v16 : S7x3x16384.Idx → EReal) (((cfg0.win 1).rect t).emb (ix3 0 a n)) = _
  congr 1
  funext b
  apply Fin.ext
  have e := (cfg0.win 1).rect_emb_val t (ix3 0 a n) b
  refine e.trans ?_
  obtain ⟨h0, h1, h2⟩ := index_k t
  fin_cases b
  · erw [h0]; exact (Nat.mul_one _).trans h.symm
  · erw [h1]; exact Nat.zero_add _
  · erw [h2]; exact Nat.zero_add _

/-- An element of the result's block, in the array. -/
theorem blk_emb (t : Fin cfg0.N) (y : S1x256x1.Idx) :
    ((((cfg0.win 2).rect t).emb y : S7x2048x1.Idx) 0).val = t.val / 8 ∧ ((((cfg0.win 2).rect t).emb y : S7x2048x1.Idx) 1).val = t.val % 8 * 256 + (y 1).val := by
  obtain ⟨h0, h1, -⟩ := index_o t
  refine ⟨((cfg0.win 2).rect_emb_val t y 0).trans ?_, ((cfg0.win 2).rect_emb_val t y 1).trans ?_⟩
  · erw [h0]
    have : (y 0).val < 1 := (y 0).isLt
    show t.val / 8 * 1 + (y 0).val = _
    omega
  · erw [h1]; rfl

set_option maxHeartbeats 1000000 in
/-- Every element a point writes names the first nearest point. -/
theorem blk_nearest (c : Dev nD) (t : Fin cfg0.N) (y : S1x256x1.Idx) :
    Nearest (V c main_v12) (V c main_v16) ((((cfg0.win 2).rect t).emb y : S7x2048x1.Idx) 0) ((((cfg0.win 2).rect t).emb y : S7x2048x1.Idx) 1)
      (k0_pay1 (qBlk V c t) (kBlk V c t) y) := by
  obtain ⟨e0, e1⟩ := blk_emb t y
  generalize (((cfg0.win 2).rect t).emb y : S7x2048x1.Idx) 0 = v at e0
  generalize (((cfg0.win 2).rect t).emb y : S7x2048x1.Idx) 1 = r' at e1
  obtain ⟨u, r, u', rfl⟩ : ∃ (u : Fin 1) (r : Fin 256) (u' : Fin 1), y = ix3 u r u' := ⟨y 0, y 1, y 2, eq_ix3 y⟩
  obtain rfl : u = 0 := Subsingleton.elim _ _
  obtain rfl : u' = 0 := Subsingleton.elim _ _
  have h := pay1_first (qBlk V c t) (kBlk V c t) r
  unfold Nearest
  have eq : (fun n : Fin 16384 => dist (fun a => qBlk V c t (ix2 r a)) (fun a => kBlk V c t (ix3 0 a n)))
      = fun n => dist (fun a => (V c main_v12 : S2048x3.Idx → EReal) (ix2 r' a)) (fun a => (V c main_v16 : S7x3x16384.Idx → EReal) (ix3 v a n)) := by
    funext n
    congr 1
    · funext a; exact qBlk_at V c t r a r' e1
    · funext a; exact kBlk_at V c t a n v e0
  rw [← eq]
  exact h

/-- Every element of the result is in some point's block. -/
theorem blk_covers (i : S7x2048x1.Idx) : ∃ t : Fin cfg0.N, (cfg0.win 2).flush t = true ∧ i ∈ ((cfg0.win 2).blk t).view.set := by
  have h0 : (i 0).val < 7 := (i 0).isLt
  have h1 : (i 1).val < 2048 := (i 1).isLt
  have h2 : (i 2).val < 1 := (i 2).isLt
  have hN : (i 0).val * 8 + (i 1).val / 256 < 56 := by omega
  let t : Fin cfg0.N := ⟨(i 0).val * 8 + (i 1).val / 256, hN⟩
  refine ⟨t, flush0_2 t, ?_⟩
  have e : ((cfg0.win 2).rect t).emb (ix3 (0 : Fin 1) (⟨(i 1).val % 256, Nat.mod_lt _ (by omega)⟩ : Fin 256) (0 : Fin 1)) = i := by
    obtain ⟨e0, e1⟩ := blk_emb t (ix3 (0 : Fin 1) (⟨(i 1).val % 256, Nat.mod_lt _ (by omega)⟩ : Fin 256) (0 : Fin 1))
    funext b
    apply Fin.ext
    have ht : t.val = (i 0).val * 8 + (i 1).val / 256 := rfl
    match b with
    | ⟨0, _⟩ => refine e0.trans ?_; show t.val / 8 = (i 0).val; omega
    | ⟨1, _⟩ => refine e1.trans ?_; show t.val % 8 * 256 + (i 1).val % 256 = (i 1).val; omega
    | ⟨2, _⟩ =>
      have e2 := ((cfg0.win 2).rect_emb_val t (ix3 (0 : Fin 1) (⟨(i 1).val % 256, Nat.mod_lt _ (by omega)⟩ : Fin 256) (0 : Fin 1)) 2)
      refine e2.trans ?_
      erw [(index_o t).2.2]
      show 0 * 1 + 0 = (i 2).val
      omega
  rw [← e]
  exact View.emb_mem_set _ _

/-- What every point writes of the result, every element of the result has. -/
theorem searched_forall (c : Dev nD) (p : Fin cfg0.N → S1x256x1.Idx → BitVec 32) (hp : ∀ t, (dat V c).after 2 t = p t)
    (P : S7x2048x1.Idx → BitVec 32 → Prop) (hP : ∀ (t : Fin cfg0.N) (y : S1x256x1.Idx), P (((cfg0.win 2).rect t).emb y) (p t y)) (i : S7x2048x1.Idx) :
    P i ((searched V c : S7x2048x1.Idx → BitVec 32) i) :=
  (dat V c).arrAt_forall_of_cover 2 P
    (fun t _ y => by
      have h : (dat V c).flushed 2 t y = p t y := congrFun (hp t) _
      rw [h]
      exact hP t y)
    blk_covers i

attribute [local irreducible] k0_pay1 in
/-- What a point leaves of the result. -/
theorem after_out {F : FTy → Type} [FloatOps F] (V : (c : Dev nD) → (b : Ref sig .tc) → Buf (Elt F) ((c : Thread nD τ).loc b))
    (c : Dev nD) (t : Fin cfg0.N) : (dat V c).after 2 t = k0_pay1 (qBlk V c t) (kBlk V c t) := by
  dsimp only [dat]

/-- The property of one element of the result, over the arrays as variables. -/
def NearestAt (Q : S2048x3.Idx → EReal) (K : S7x3x16384.Idx → EReal) (i : S7x2048x1.Idx) (w : BitVec 32) : Prop := Nearest Q K (i 0) (i 1) w

theorem searched_nearestAt (c : Dev nD) (i : S7x2048x1.Idx) :
    NearestAt (V c main_v12) (V c main_v16) i ((searched V c : S7x2048x1.Idx → BitVec 32) i) :=
  searched_forall V c _ (after_out V c) (NearestAt (V c main_v12) (V c main_v16)) (blk_nearest V c) i

/-- Every element of the search's result names the first nearest point. -/
theorem searched_nearest (c : Dev nD) (v : Fin 7) (r : Fin 2048) :
    Nearest (V c main_v12) (V c main_v16) v r ((searched V c : S7x2048x1.Idx → BitVec 32) (ix3 v r 0)) :=
  searched_nearestAt V c (ix3 v r 0)

end Cert.KernelIdeal.Hand
-- ==== Proof.KernelIdeal.Hosts.lean ====
module

public import proofs.«01_k».proof.Proof.KernelIdeal.Setup

@[expose] public section

noncomputable section

namespace Cert.KernelIdeal.Hand

open Cert.KernelIdeal
open Idealize.ShloMosaic Idealize.ShloMosaic.StableHlo
open Cert.KernelIdeal.Facts₀
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The three straight lines of host operations -/

/-- The host operations before the search: the best places, their points, and the tables in component order. -/
def opsA : List (HloOp τ sig (Elt F)) := [
  StableHlo.unary main_arg1 main_v0 ((extractStridedSlice S1x128x128 ![0, 0, 0] · slices_S8x128x128_S1x128x128_0_0_0) : (⟨S8x128x128, .f32⟩ : BufTy).Contents (Elt F) → (⟨S1x128x128, .f32⟩ : BufTy).Contents (Elt F)),
  StableHlo.reshape main_v0 main_v1 rfl shapeCasts_S1x128x128_S128x128,
  StableHlo.reshape main_v1 main_v2 rfl shapeCasts_S128x128_S16384,
  StableHlo.unary main_v2 main_values ((fun x => (Host.topK S2048 0 (FloatOps.cmpfTotal .gt) x sliceFits_S16384_S2048).1) : (⟨S16384, .f32⟩ : BufTy).Contents (Elt F) → (⟨S2048, .f32⟩ : BufTy).Contents (Elt F)),
  StableHlo.unary main_v2 main_indices ((fun x => (Host.topK S2048 0 (FloatOps.cmpfTotal .gt) x sliceFits_S16384_S2048).2) : (⟨S16384, .f32⟩ : BufTy).Contents (Elt F) → (⟨S2048, .i32⟩ : BufTy).Contents (Elt F)),
  StableHlo.unary main_arg0 main_v3 ((extractStridedSlice S1x128x128x3 ![0, 0, 0, 0] · slices_S8x128x128x3_S1x128x128x3_0_0_0_0) : (⟨S8x128x128x3, .f32⟩ : BufTy).Contents (Elt F) → (⟨S1x128x128x3, .f32⟩ : BufTy).Contents (Elt F)),
  StableHlo.reshape main_v3 main_v4 rfl shapeCasts_S1x128x128x3_S128x128x3,
  StableHlo.reshape main_v4 main_v5 rfl shapeCasts_S128x128x3_S16384x3,
  StableHlo.nullary main_c (constantI S_ 32 0#32),
  StableHlo.unary main_c main_v6 (broadcastInDim S2048 ![] bcast_S_S2048 : (⟨S_, .i32⟩ : BufTy).Contents (Elt F) → (⟨S2048, .i32⟩ : BufTy).Contents (Elt F)),
  StableHlo.binary main_indices main_v6 main_v7 (cmpi .slt : (⟨S2048, .i32⟩ : BufTy).Contents (Elt F) → (⟨S2048, .i32⟩ : BufTy).Contents (Elt F) → (⟨S2048, .i1⟩ : BufTy).Contents (Elt F)),
  StableHlo.nullary main_c_0 (constantI S_ 32 16384#32),
  StableHlo.unary main_c_0 main_v8 (broadcastInDim S2048 ![] bcast_S_S2048 : (⟨S_, .i32⟩ : BufTy).Contents (Elt F) → (⟨S2048, .i32⟩ : BufTy).Contents (Elt F)),
  StableHlo.binary main_indices main_v8 main_v9 (addi : (⟨S2048, .i32⟩ : BufTy).Contents (Elt F) → (⟨S2048, .i32⟩ : BufTy).Contents (Elt F) → (⟨S2048, .i32⟩ : BufTy).Contents (Elt F)),
  StableHlo.ternary main_v7 main_v9 main_indices main_v10 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_v10 main_v11 (broadcastInDim S2048x1 ![0] bcast_S2048_S2048x1_0 : (⟨S2048, .i32⟩ : BufTy).Contents (Elt F) → (⟨S2048x1, .i32⟩ : BufTy).Contents (Elt F)),
  StableHlo.binary main_v5 main_v11 main_v12 ((fun x i => Host.gather gather_S16384x3_S2048x1_S2048x3_1_0_n_n_0_1_13 x i) : (⟨S16384x3, .f32⟩ : BufTy).Contents (Elt F) → (⟨S2048x1, .i32⟩ : BufTy).Contents (Elt F) → (⟨S2048x3, .f32⟩ : BufTy).Contents (Elt F)),
  StableHlo.reshape main_arg0 main_v13 rfl shapeCasts_S8x128x128x3_S8x16384x3,
  StableHlo.unary main_v13 main_v14 ((transpose S8x3x16384 [0, 2, 1] · transposes_S8x16384x3_S8x3x16384_0_2_1) : (⟨S8x16384x3, .f32⟩ : BufTy).Contents (Elt F) → (⟨S8x3x16384, .f32⟩ : BufTy).Contents (Elt F)),
  StableHlo.reshape main_arg1 main_v15 rfl shapeCasts_S8x128x128_S8x16384,
  StableHlo.unary main_v14 main_v16 ((extractStridedSlice S7x3x16384 ![1, 0, 0] · slices_S8x3x16384_S7x3x16384_1_0_0) : (⟨S8x3x16384, .f32⟩ : BufTy).Contents (Elt F) → (⟨S7x3x16384, .f32⟩ : BufTy).Contents (Elt F)) ]

/-- The host operations between the search and the gather: the places of every view in one list, and one flat table per component. -/
def opsB : List (HloOp τ sig (Elt F)) := [
  StableHlo.unary main_indices main_v18 (broadcastInDim S1x2048 ![1] bcast_S2048_S1x2048_1 : (⟨S2048, .i32⟩ : BufTy).Contents (Elt F) → (⟨S1x2048, .i32⟩ : BufTy).Contents (Elt F)),
  StableHlo.reshape main_v17 main_v19 rfl shapeCasts_S7x2048x1_S7x2048,
  StableHlo.binary main_v18 main_v19 main_v20 ((fun a b => concatenate S8x2048 0 [⟨S1x2048, a⟩, ⟨S7x2048, b⟩] concatenates_S1x2048_S7x2048_S8x2048_d0) : (⟨S1x2048, .i32⟩ : BufTy).Contents (Elt F) → (⟨S7x2048, .i32⟩ : BufTy).Contents (Elt F) → (⟨S8x2048, .i32⟩ : BufTy).Contents (Elt F)),
  StableHlo.reshape main_v20 main_v21 rfl shapeCasts_S8x2048_S16384,
  StableHlo.unary main_v14 main_v22 ((extractStridedSlice S8x1x16384 ![0, 0, 0] · slices_S8x3x16384_S8x1x16384_0_0_0) : (⟨S8x3x16384, .f32⟩ : BufTy).Contents (Elt F) → (⟨S8x1x16384, .f32⟩ : BufTy).Contents (Elt F)),
  StableHlo.reshape main_v22 main_v23 rfl shapeCasts_S8x1x16384_S8x16384,
  StableHlo.reshape main_v23 main_v24 rfl shapeCasts_S8x16384_S131072,
  StableHlo.unary main_v14 main_v25 ((extractStridedSlice S8x1x16384 ![0, 1, 0] · slices_S8x3x16384_S8x1x16384_0_1_0) : (⟨S8x3x16384, .f32⟩ : BufTy).Contents (Elt F) → (⟨S8x1x16384, .f32⟩ : BufTy).Contents (Elt F)),
  StableHlo.reshape main_v25 main_v26 rfl shapeCasts_S8x1x16384_S8x16384,
  StableHlo.reshape main_v26 main_v27 rfl shapeCasts_S8x16384_S131072,
  StableHlo.unary main_v14 main_v28 ((extractStridedSlice S8x1x16384 ![0, 2, 0] · slices_S8x3x16384_S8x1x16384_0_2_0) : (⟨S8x3x16384, .f32⟩ : BufTy).Contents (Elt F) → (⟨S8x1x16384, .f32⟩ : BufTy).Contents (Elt F)),
  StableHlo.reshape main_v28 main_v29 rfl shapeCasts_S8x1x16384_S8x16384,
  StableHlo.reshape main_v29 main_v30 rfl shapeCasts_S8x16384_S131072,
  StableHlo.reshape main_v15 main_v31 rfl shapeCasts_S8x16384_S131072 ]

/-- The host operations after the gather: the results put together. -/
def opsC : List (HloOp τ sig (Elt F)) := [
  StableHlo.reshape main_v32_0 main_v33 rfl shapeCasts_S16384_S8x2048,
  StableHlo.reshape main_v32_1 main_v34 rfl shapeCasts_S16384_S8x2048,
  StableHlo.unary main_v33 main_v35 (broadcastInDim S8x2048x1 ![0, 1] bcast_S8x2048_S8x2048x1_0_1 : (⟨S8x2048, .i32⟩ : BufTy).Contents (Elt F) → (⟨S8x2048x1, .i32⟩ : BufTy).Contents (Elt F)),
  StableHlo.unary main_v34 main_v36 (broadcastInDim S8x2048x1 ![0, 1] bcast_S8x2048_S8x2048x1_0_1 : (⟨S8x2048, .i32⟩ : BufTy).Contents (Elt F) → (⟨S8x2048x1, .i32⟩ : BufTy).Contents (Elt F)),
  StableHlo.binary main_v35 main_v36 main_v37 ((fun a b => concatenate S8x2048x2 2 [⟨S8x2048x1, a⟩, ⟨S8x2048x1, b⟩] concatenates_S8x2048x1_S8x2048x1_S8x2048x2_d2) : (⟨S8x2048x1, .i32⟩ : BufTy).Contents (Elt F) → (⟨S8x2048x1, .i32⟩ : BufTy).Contents (Elt F) → (⟨S8x2048x2, .i32⟩ : BufTy).Contents (Elt F)),
  StableHlo.reshape main_v32_2 main_v38 rfl shapeCasts_S16384_S8x2048,
  StableHlo.reshape main_v32_3 main_v39 rfl shapeCasts_S16384_S8x2048,
  StableHlo.reshape main_v32_4 main_v40 rfl shapeCasts_S16384_S8x2048,
  StableHlo.unary main_v38 main_v41 (broadcastInDim S8x2048x1 ![0, 1] bcast_S8x2048_S8x2048x1_0_1 : (⟨S8x2048, .f32⟩ : BufTy).Contents (Elt F) → (⟨S8x2048x1, .f32⟩ : BufTy).Contents (Elt F)),
  StableHlo.unary main_v39 main_v42 (broadcastInDim S8x2048x1 ![0, 1] bcast_S8x2048_S8x2048x1_0_1 : (⟨S8x2048, .f32⟩ : BufTy).Contents (Elt F) → (⟨S8x2048x1, .f32⟩ : BufTy).Contents (Elt F)),
  StableHlo.unary main_v40 main_v43 (broadcastInDim S8x2048x1 ![0, 1] bcast_S8x2048_S8x2048x1_0_1 : (⟨S8x2048, .f32⟩ : BufTy).Contents (Elt F) → (⟨S8x2048x1, .f32⟩ : BufTy).Contents (Elt F)),
  StableHlo.nary ![main_v41, main_v42, main_v43] main_v44 (fun u => (concatenate S8x2048x3 2 [⟨S8x2048x1, (u 0 : (⟨S8x2048x1, .f32⟩ : BufTy).Contents (Elt F))⟩, ⟨S8x2048x1, (u 1 : (⟨S8x2048x1, .f32⟩ : BufTy).Contents (Elt F))⟩, ⟨S8x2048x1, (u 2 : (⟨S8x2048x1, .f32⟩ : BufTy).Contents (Elt F))⟩] concatenates_S8x2048x1_S8x2048x1_S8x2048x1_S8x2048x3_d2 : (⟨S8x2048x3, .f32⟩ : BufTy).Contents (Elt F))),
  StableHlo.reshape main_v32_5 main_v45 rfl shapeCasts_S16384_S8x2048 ]

/-- The program of a device's TensorCore: a straight line, the search, a straight line, the gather, a straight line. -/
theorem main_eq (d : Dev nD) : main (F := F) d
    = (StableHlo.seq opsA >>= fun _ => Prog.lift (.customCall (SparseCore.inner (Pipeline.entry 0)) ()) >>= fun _ =>
        StableHlo.seq opsB >>= fun _ => (sc (F := F)).run d 0 >>= fun _ => StableHlo.seq opsC >>= fun _ => pure ⟨⟩) := by
  rw [seq_bind_seqK, seq_bind_seqK opsB, seq_bind_seqK opsC]
  rfl

/-! ## The arrays the host operations name -/

/-- The TensorCore's arrays that no scope allocates. -/
def ucRefs : Finset (DevRef τ sig) := (StableHlo.tcRefs τ sig).filter fun b => ¬ b.isScoped

/-- The launch's arrays at a valuation are that set held at it. -/
theorem unscopedBufs_held (c : Dev nD) (W : Valuation τ sig (Elt F)) :
    (unscopedBufs c (fun b => W (Proc.devRef .tc b)) : sProp 𝕄) = StableHlo.held (SparseCore.T c) ucRefs W := by
  unfold unscopedBufs StableHlo.held ucRefs StableHlo.tcRefs
  rw [Finset.filter_map, bigSep_map]
  rfl

/-- Operations on arrays of the TensorCore name only arrays of that set. -/
theorem sub_uc {ops : List (HloOp τ sig (Elt F))} (h : ops.Forall fun op => op.bufs ⊆ StableHlo.tcRefs τ sig) :
    ∀ op ∈ ops, op.bufs ⊆ ucRefs := fun op hop b hb =>
  Finset.mem_filter.mpr ⟨(List.forall_iff_forall_mem.mp h) op hop hb, fun h' => Bool.false_ne_true ((op.no_scoped b hb).symm.trans h')⟩

/-- Every array of `opsA` is in that set, -/
theorem opsA_sub : ∀ op ∈ opsA (F := F), op.bufs ⊆ ucRefs := sub_uc (by
  unfold opsA
  exact ⟨StableHlo.unary_bufs_sub .., StableHlo.reshape_bufs_sub .., StableHlo.reshape_bufs_sub .., StableHlo.unary_bufs_sub .., StableHlo.unary_bufs_sub .., StableHlo.unary_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.unary_bufs_sub .., StableHlo.reshape_bufs_sub .., StableHlo.unary_bufs_sub ..⟩)
/-- and none of its results is left open. -/
theorem opsA_fresh : ∀ op ∈ opsA (F := F), op.fresh = ∅ := by
  intro op h; unfold opsA at h; fin_cases h <;> rfl

/-- Every array of `opsB` is in that set, -/
theorem opsB_sub : ∀ op ∈ opsB (F := F), op.bufs ⊆ ucRefs := sub_uc (by
  unfold opsB
  exact ⟨StableHlo.unary_bufs_sub .., StableHlo.reshape_bufs_sub .., StableHlo.binary_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub ..⟩)
/-- and none of its results is left open. -/
theorem opsB_fresh : ∀ op ∈ opsB (F := F), op.fresh = ∅ := by
  intro op h; unfold opsB at h; fin_cases h <;> rfl

/-- Every array of `opsC` is in that set, -/
theorem opsC_sub : ∀ op ∈ opsC (F := F), op.bufs ⊆ ucRefs := sub_uc (by
  unfold opsC
  exact ⟨StableHlo.reshape_bufs_sub .., StableHlo.reshape_bufs_sub .., StableHlo.unary_bufs_sub .., StableHlo.unary_bufs_sub .., StableHlo.binary_bufs_sub .., StableHlo.reshape_bufs_sub .., StableHlo.reshape_bufs_sub .., StableHlo.reshape_bufs_sub .., StableHlo.unary_bufs_sub .., StableHlo.unary_bufs_sub .., StableHlo.unary_bufs_sub .., StableHlo.nary_bufs_sub .., StableHlo.reshape_bufs_sub ..⟩)
/-- and none of its results is left open. -/
theorem opsC_fresh : ∀ op ∈ opsC (F := F), op.fresh = ∅ := by
  intro op h; unfold opsC at h; fin_cases h <;> rfl

/-- Arrays held at a valuation are at that valuation in the machine's memory. -/
theorem held_agree (d : Dev nD) (U : Finset (DevRef τ sig)) (W : Valuation τ sig (Elt F)) (s' : Phys nD τ sig (Elt F)) :
    iprop(StableHlo.held (SparseCore.T d) U W ∗ SI s') ⊢ (⌜∀ b ∈ U, s'.mem.mem (d, b) = W b⌝ : sProp 𝕄) := by
  have one (b : DevRef τ sig) (hb : b ∈ U) : iprop(StableHlo.held (SparseCore.T d) U W ∗ SI s') ⊢ (⌜s'.mem.mem (d, b) = W b⌝ : sProp 𝕄) := by
    unfold StableHlo.held
    rw [show U = insert b (U.erase b) from (Finset.insert_erase hb).symm, SparseCore.bigSep_insert' (Finset.notMem_erase b U)]
    iintro ⟨⟨Hx, -⟩, HSI⟩
    ihave H := (SI_pointsTo_agree (st := s') (ℓ := (d, b)) (I := Finset.univ) (q := fullShare) (f := W b)) $$ [HSI Hx]
    · isplitl [HSI] <;> iassumption
    icases H with %hx
    ipureintro; exact funext fun i => hx i (Finset.mem_univ i)
  by_cases h : ∀ b ∈ U, s'.mem.mem (d, b) = W b
  · exact Idealize.SL.BI.pure_intro h
  · obtain ⟨b, hb⟩ := not_forall.1 h
    obtain ⟨hb, hne⟩ := Classical.not_imp.1 hb
    exact (one b hb).trans (pure_elim' fun e => absurd e hne)

end Cert.KernelIdeal.Hand
-- ==== Proof.KernelIdeal.Own.lean ====
module

public import proofs.«01_k».proof.Proof.KernelIdeal.TileBody

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)

/-! ## Taking members out of a big separating conjunction -/

/-- Distinct members of `s`, one after the other, and the rest. -/
theorem bigSep_list {ι : Type} [DecidableEq ι] (Φ : ι → sProp 𝕄) (l : List ι) : ∀ (s : Finset ι), l.Nodup → (∀ x ∈ l, x ∈ s) →
    bigSep s Φ = l.foldr (fun x acc => iprop(Φ x ∗ acc)) (bigSep (l.foldl Finset.erase s) Φ) := by
  induction l with
  | nil => intro s _ _; rfl
  | cons a l ih =>
    intro s hn hs
    rw [List.nodup_cons] at hn
    rw [SparseCore.bigSep_erase' (hs a (List.mem_cons_self ..)), ih (s.erase a) hn.2
      (fun x hx => Finset.mem_erase.mpr ⟨fun e => hn.1 (e ▸ hx), hs x (List.mem_cons_of_mem _ hx)⟩)]
    rfl

abbrev cellList : List (DmaSems sig S_) :=
  [cc1_scoped0, cc1_scoped1, cc1_scoped2, cc1_scoped3, cc1_scoped4, cc1_scoped5, cc1_scoped6, cc1_scoped7, cc1_scoped8, cc1_scoped9, cc1_scoped10]

/-- The tile's cells beyond the eleven its copies use. -/
def restCells : sProp 𝕄 :=
  bigSep ((cellList.map fun s => ((thr d L, SemLoc.dma s.sem) : GSem nD τ sig)).foldl Finset.erase (ownCells (thr d L))) fun g => semVal g 0

/-- The tile's cells are the eleven its copies use and the rest. -/
theorem ownSems0_thr :
    (ownSems0 (thr d L) : sProp 𝕄) = iprop(semVal (thr d L, SemLoc.dma cc1_scoped0.sem) 0 ∗ semVal (thr d L, SemLoc.dma cc1_scoped1.sem) 0 ∗ semVal (thr d L, SemLoc.dma cc1_scoped2.sem) 0 ∗ semVal (thr d L, SemLoc.dma cc1_scoped3.sem) 0 ∗ semVal (thr d L, SemLoc.dma cc1_scoped4.sem) 0 ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ restCells (F := F) d L) := by
  unfold SparseCore.Cfg.ownSems0
  refine (bigSep_list _ (cellList.map fun s => ((thr d L, SemLoc.dma s.sem) : GSem nD τ sig)) _ ?_ ?_).trans ?_
  rotate_left 2
  · change List.foldr _ (restCells (F := F) d L) _ = _
    simp only [cellList, List.map_cons, List.map_nil, List.foldr_cons, List.foldr_nil]
  · have hn : (cellList.map fun s => (SemLoc.dma s.sem : SemLoc sig)).Nodup := by decide
    have := hn.map (f := fun x => ((thr d L, x) : GSem nD τ sig)) (fun a b h => (Prod.mk.inj h).2)
    rwa [List.map_map] at this
  · intro g hg
    obtain ⟨s, hs, rfl⟩ := List.mem_map.mp hg
    exact mem_ownCells.mpr ⟨rfl, (show ∀ s ∈ cellList, (SemLoc.dma s.sem : SemLoc sig).isScoped .scVector = true by decide) s hs⟩

abbrev bufList : List (Ref sig .scVector) :=
  [cc1_scratch0, cc1_scratch1, cc1_scratch2, cc1_scratch3, cc1_scratch4, cc1_scratch5, cc1_scratch6, cc1_scratch7, cc1_scratch8, cc1_scratch9, cc1_scratch10]

/-- The tile's buffers beyond its eleven scratch buffers. -/
def restBufs : sProp 𝕄 :=
  bigSep ((bufList.map fun b => (Proc.scVector (cV L) (jV L)).devRef b).foldl Finset.erase (ownRefs (τ := τ) (.scVector (cV L) (jV L))))
    fun b => iprop(∃ f, ((d, b) : Loc nD τ sig) ↦{fullShare} f)

/-- The tile's buffers are its eleven scratch buffers and the rest. -/
theorem ownBufs_thr :
    (ownBufs (thr d L) : sProp 𝕄) = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f) ∗ (∃ f, (thr d L).loc cc1_scratch8 ↦{fullShare} f) ∗ (∃ f, (thr d L).loc cc1_scratch9 ↦{fullShare} f) ∗ (∃ f, (thr d L).loc cc1_scratch10 ↦{fullShare} f) ∗ restBufs (F := F) d L) := by
  unfold SparseCore.Cfg.ownBufs
  refine (bigSep_list _ (bufList.map fun b => (Proc.scVector (cV L) (jV L)).devRef b) _ ?_ ?_).trans ?_
  rotate_left 2
  · change List.foldr _ (restBufs (F := F) d L) _ = _
    simp only [bufList, List.map_cons, List.map_nil, List.foldr_cons, List.foldr_nil]
  · exact (show bufList.Nodup by decide).map (Proc.devRef_injective _)
  · intro g hg
    obtain ⟨b, hb, rfl⟩ := List.mem_map.mp hg
    exact mem_ownRefs_of_owner ((show ∀ b ∈ bufList, ((Proc.scVector (cV L) (jV L)).devRef b).owner = .proc (.scVector (cV L) (jV L)) from by
      simp only [bufList, List.forall_mem_cons]
      exact ⟨rfl, rfl, rfl, rfl, rfl, rfl, rfl, rfl, rfl, rfl, rfl, fun _ h => absurd h (List.not_mem_nil)⟩) b hb)

end Cert.KernelIdeal.Hand
-- ==== Proof.KernelIdeal.Pay.lean ====
module

public import proofs.«01_k».proof.Proof.KernelIdeal.Own

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Where a tile's parts lie -/

/-- A tile's number among the thirty-two. -/
def wid (L : grid1.Coords) : Nat := 2 * (L 1).val + (L 0).val

theorem wid_lt (L : grid1.Coords) : wid L < 32 := by
  have h0 : (L 0).val < 2 := (L 0).isLt
  have h1 : (L 1).val < 16 := (L 1).isLt
  unfold wid
  omega

theorem off1_eq : ∀ L : grid1.Coords, k1_off1 L 0 = 16384 * (wid L / 4) := by unfold wid; decide +kernel
theorem off2_eq : ∀ L : grid1.Coords, k1_off2 L 0 = 512 * wid L := by unfold wid; decide +kernel
theorem off3_eq : ∀ L : grid1.Coords, k1_off3 L 0 = 512 * wid L := by unfold wid; decide +kernel

/-- The tile's `j`-th place among the 16384. -/
def rowIx (L : grid1.Coords) (j : S512.Idx) : S16384.Idx := fun a => ⟨512 * wid L + (j 0).val, by
  have e : a = 0 := Subsingleton.elim _ _
  subst e
  have := wid_lt L
  have hj : (j 0).val < 512 := (j 0).isLt
  show 512 * wid L + (j 0).val < 16384
  omega⟩

/-- Entry `w` of the table of the view that place `j` belongs to. -/
def tabIx (j : S16384.Idx) (w : BitVec 32) : S131072.Idx := fun a => ⟨16384 * ((j 0).val / 2048) + w.toNat % 16384, by
  have e : a = 0 := Subsingleton.elim _ _
  subst e
  have hj : (j 0).val < 16384 := (j 0).isLt
  show _ < 131072
  omega⟩

/-- The rows, the columns and the table entries of the indices. -/
def outRow (I : S16384.Idx → BitVec 32) : S16384.Idx → BitVec 32 := fun j => rowW (I j)
def outCol (I : S16384.Idx → BitVec 32) : S16384.Idx → BitVec 32 := fun j => colW (I j)
def outTab (I : S16384.Idx → BitVec 32) (T : S131072.Idx → F .f32) : S16384.Idx → F .f32 := fun j => T (tabIx j (I j))

theorem emb_out (L : grid1.Coords) (j : S512.Idx) : (Rect.unit (s := S16384) (k1_off3 L) S512.size (k1_off3_inb L)).emb j = rowIx L j := by
  funext a
  apply Fin.ext
  have e : a = 0 := Subsingleton.elim _ _
  subst e
  show k1_off3 L 0 + 1 * (j 0).val = 512 * wid L + (j 0).val
  rw [off3_eq, Nat.one_mul]

theorem emb_idx (L : grid1.Coords) (j : S512.Idx) : (Rect.unit (s := S16384) (k1_off2 L) S512.size (k1_off2_inb L)).emb j = rowIx L j := by
  funext a
  apply Fin.ext
  have e : a = 0 := Subsingleton.elim _ _
  subst e
  show k1_off2 L 0 + 1 * (j 0).val = 512 * wid L + (j 0).val
  rw [off2_eq, Nat.one_mul]

/-- A tile's entry at a word is the entry of its view's table. -/
theorem emb_tab (L : grid1.Coords) (j : S512.Idx) (w : BitVec 32) (k : S16384.Idx) (hk : (k 0).val = w.toNat % 16384) :
    (Rect.unit (s := S131072) (k1_off1 L) S16384.size (k1_off1_inb L)).emb k = tabIx (rowIx L j) w := by
  funext a
  apply Fin.ext
  have e : a = 0 := Subsingleton.elim _ _
  subst e
  have hj : (j 0).val < 512 := (j 0).isLt
  show k1_off1 L 0 + 1 * (k 0).val = 16384 * ((512 * wid L + (j 0).val) / 2048) + w.toNat % 16384
  rw [off1_eq, Nat.one_mul, hk]
  congr 2
  omega

/-- What a tile's output of a table reads as is its view's table at its indices. -/
theorem read_tab (L : grid1.Coords) (I : S16384.Idx → BitVec 32) (T : S131072.Idx → F .f32) (j : S512.Idx) :
    outTab I T ((Rect.unit (s := S16384) (k1_off3 L) S512.size (k1_off3_inb L)).emb j)
      = entry (fun k => T ((Rect.unit (s := S131072) (k1_off1 L) S16384.size (k1_off1_inb L)).emb k))
          (I ((Rect.unit (s := S16384) (k1_off2 L) S512.size (k1_off2_inb L)).emb j)) := by
  rw [emb_out, emb_idx]
  unfold outTab entry
  exact congrArg T (emb_tab L j _ _ rfl).symm

/-! ## What the call carries -/

/-- The contents of the call's operands: the indices and the four tables. -/
structure Cts (F : FTy → Type) where
  I : Dev nD → S16384.Idx → BitVec 32
  T0 : Dev nD → S131072.Idx → F .f32
  T1 : Dev nD → S131072.Idx → F .f32
  T2 : Dev nD → S131072.Idx → F .f32
  T3 : Dev nD → S131072.Idx → F .f32
  lt : ∀ d j, (I d j).toNat < 16384

variable (X : Cts F)

/-- A core's read share of a table, and a tile's of that. -/
def tok (L : grid1.Coords) : PosShare TreeShare :=
  Transfers.dealOf (Transfers.dealOf fullShare Finset.univ (L 0 : Fin 2)) Finset.univ (L 1 : Fin 16)

def ins (d : Dev nD) (L : grid1.Coords) : sProp 𝕄 :=
  inputs (F := F) d L hIdx hT0 hT1 hT2 hT3 (tok L) (X.I d) (X.T0 d) (X.T1 d) (X.T2 d) (X.T3 d)
def goP (d : Dev nD) (L : grid1.Coords) : sProp 𝕄 :=
  iprop(ins X d L ∗ outsAny (F := F) d L hR hC hO0 hO1 hO2 hO3)
def tdP (d : Dev nD) (L : grid1.Coords) : sProp 𝕄 :=
  iprop(ins X d L ∗ outsAt (F := F) d L hR hC hO0 hO1 hO2 hO3 (outRow (X.I d)) (outCol (X.I d))
    (outTab (X.I d) (X.T0 d))
    (outTab (X.I d) (X.T1 d))
    (outTab (X.I d) (X.T2 d))
    (outTab (X.I d) (X.T3 d)))

def coordsV (c : Fin 2) (s : Fin 16) : grid1.Coords :=
  fun | 0 => c | 1 => s | ⟨_ + 2, h⟩ => absurd h (Nat.not_lt.2 (Nat.le_add_left _ _))

/-- The one call: each core takes its tiles' parts and brings them back. -/
def P : (K (F := F)).Pay (nD := nD) (Val := Elt F) (Name := ℕ) (U := UU) where
  st := fun q d c => match q with | 0 => bigSep Finset.univ fun i : Fin 16 => goP X d (coordsV c i)
  dn := fun q d c => match q with | 0 => bigSep Finset.univ fun i : Fin 16 => tdP X d (coordsV c i)
  go := fun q d c i => match q with | 0 => goP X d (coordsV c i)
  td := fun q d c i => match q with | 0 => tdP X d (coordsV c i)
  x := fun _ _ => iprop(emp)

section Storable

variable (d : Dev nD) (L : grid1.Coords) (a2 : Memref sig .scVector .hbm S16384 .i32)
  (a3 a4 a5 a6 : Memref sig .scVector .hbm S131072 .f32)
  (a7 a8 : Memref sig .scVector .hbm S16384 .i32)
  (a9 a10 a11 a12 : Memref sig .scVector .hbm S16384 .f32)

instance somePart_storable {e : EltTy} (m : Memref sig .scVector .hbm S16384 e) : BI.Storable (upEmb : UEmb _ 𝕄) (somePart (F := F) d L m) := by
  unfold somePart
  infer_instance
instance inputs_storable (q : PosShare TreeShare) (I T0 T1 T2 T3) :
    BI.Storable (upEmb : UEmb _ 𝕄) (inputs (F := F) d L a2 a3 a4 a5 a6 q I T0 T1 T2 T3) := by
  unfold inputs
  infer_instance
instance outsAny_storable : BI.Storable (upEmb : UEmb _ 𝕄) (outsAny (F := F) d L a7 a8 a9 a10 a11 a12) := by
  unfold outsAny
  infer_instance
instance outsAt_storable (G0 G1 G2 G3 G4 G5) :
    BI.Storable (upEmb : UEmb _ 𝕄) (outsAt (F := F) d L a7 a8 a9 a10 a11 a12 G0 G1 G2 G3 G4 G5) := by
  unfold outsAt
  infer_instance

end Storable

instance goP_storable (d : Dev nD) (L : grid1.Coords) : BI.Storable (upEmb : UEmb _ 𝕄) (goP X d L) := by
  unfold goP ins
  infer_instance
instance tdP_storable (d : Dev nD) (L : grid1.Coords) : BI.Storable (upEmb : UEmb _ 𝕄) (tdP X d L) := by
  unfold tdP ins
  infer_instance

instance P_storable : (P X).IsStorable where
  st q d c := match q with
    | 0 => (inferInstance : BI.Storable (upEmb : UEmb _ 𝕄) (bigSep Finset.univ fun i : Fin 16 => goP X d (coordsV c i)))
  dn q d c := match q with
    | 0 => (inferInstance : BI.Storable (upEmb : UEmb _ 𝕄) (bigSep Finset.univ fun i : Fin 16 => tdP X d (coordsV c i)))
  go q d c i := match q with
    | 0 => (inferInstance : BI.Storable (upEmb : UEmb _ 𝕄) (goP X d (coordsV c i)))
  td q d c i := match q with
    | 0 => (inferInstance : BI.Storable (upEmb : UEmb _ 𝕄) (tdP X d (coordsV c i)))

/-- A core's part is its tiles' parts, both ways. -/
theorem vecSplit : (K (F := F)).VecSplit' (P X) 0 := by
  intro d c
  show (bigSep Finset.univ fun i : Fin 16 => goP X d (coordsV c i)) ⊢ |={Set.univ}=> iprop(
    (bigSep Finset.univ fun i : Fin 16 => goP X d (coordsV c i))
      ∗ ((bigSep Finset.univ fun i : Fin 16 => tdP X d (coordsV c i)) -∗ bigSep Finset.univ fun i : Fin 16 => tdP X d (coordsV c i)))
  iintro H
  imodintro
  isplitl [H]; · iexact H
  iintro H
  iexact H

/-! ## The tile's obligation -/

set_option maxHeartbeats 2000000 in
/-- A tile's task: from its parts and its own memory to its parts written. -/
theorem tile_body (d : Dev nD) (L : grid1.Coords) (O : CellTallies nD τ sig (HIx 1)) (W : Waits sig (HIx 1)) (hO : ∀ g, O g none = 0) :
    iprop(levAts (K (F := F)).L (K (F := F)).lev ∗ emp ∗ goP X d L
        ∗ scopedBufs (thr d L) ∗ scopedSems0 (thr d L) ∗ owes (thr d L) O W)
      ⊢ wp frame (wpE (defs₀ (F := F)) 𝒱₀ (thr d L) none) Set.univ
          (cc1__sc_gather_body (F := F) L hIdx (Memref.isWhole_whole _) hT0 (Memref.isWhole_whole _) hT1 (Memref.isWhole_whole _) hT2 (Memref.isWhole_whole _) hT3 (Memref.isWhole_whole _) hR (Memref.isWhole_whole _) hC (Memref.isWhole_whole _) hO0 (Memref.isWhole_whole _) hO1 (Memref.isWhole_whole _) hO2 (Memref.isWhole_whole _) hO3 (Memref.isWhole_whole _) sIdx (Memref.isWhole_whole _) sT0 (Memref.isWhole_whole _) sT1 (Memref.isWhole_whole _) sT2 (Memref.isWhole_whole _) sT3 (Memref.isWhole_whole _) sR (Memref.isWhole_whole _) sC (Memref.isWhole_whole _) sO0 (Memref.isWhole_whole _) sO1 (Memref.isWhole_whole _) sO2 (Memref.isWhole_whole _) sO3 (Memref.isWhole_whole _)
            cc1_scoped0 cc1_scoped1 cc1_scoped2 cc1_scoped3 cc1_scoped4 cc1_scoped5 cc1_scoped6 cc1_scoped7 cc1_scoped8 cc1_scoped9 cc1_scoped10)
          fun _ => iprop(tdP X d L ∗ scopedBufs (thr d L) ∗ scopedSems0 (thr d L)
            ∗ ∃ W', ⌜∀ p ∈ W', p ∈ W ∨ p.2 = none⌝ ∗ owes (thr d L) O W') := by
  rw [body_eq, (K (F := F)).scopedBufs_V scFacts d (cV L) (jV L), SparseCore.Cfg.scopedSems0_V (Val := Elt F) d (cV L) (jV L), ownSems0_thr, ownBufs_thr]
  unfold goP tdP ins
  iintro ⟨#Hlv, -, ⟨Hin, Hout⟩, ⟨B0, B1, B2, B3, B4, B5, B6, B7, B8, B9, B10, HB⟩, ⟨S0, S1, S2, S3, S4, S5, S6, S7, S8, S9, S10, HS⟩, HO⟩
  ihave Hmw := ((K (F := F)).mayWaits_none (thr := thr d L) hO) $$ Hlv
  iapply (wp_tileProg d L hIdx hT0 hT1 hT2 hT3 hR hC hO0 hO1 hO2 hO3 sIdx _ sT0 _ sT1 _ sT2 _ sT3 _ sR _ sC _ sO0 _ sO1 _ sO2 _ sO3 _
    cc1_scoped0 cc1_scoped1 cc1_scoped2 cc1_scoped3 cc1_scoped4 cc1_scoped5 cc1_scoped6 cc1_scoped7 cc1_scoped8 cc1_scoped9 cc1_scoped10 (tok L) (X.I d) (X.T0 d) (X.T1 d) (X.T2 d) (X.T3 d)
    (fun j => X.lt d _) (outRow (X.I d)) (outCol (X.I d))
    (outTab (X.I d) (X.T0 d))
    (outTab (X.I d) (X.T1 d))
    (outTab (X.I d) (X.T2 d))
    (outTab (X.I d) (X.T3 d))
    (funext fun j => congrArg rowW ((congrArg (X.I d) (emb_out L j)).trans (congrArg (X.I d) (emb_idx L j)).symm))
    (funext fun j => congrArg colW ((congrArg (X.I d) (emb_out L j)).trans (congrArg (X.I d) (emb_idx L j)).symm))
    (funext fun j => read_tab L (X.I d) (X.T0 d) j) (funext fun j => read_tab L (X.I d) (X.T1 d) j)
    (funext fun j => read_tab L (X.I d) (X.T2 d) j) (funext fun j => read_tab L (X.I d) (X.T3 d) j) O W _)
  isplitl [Hmw]; · iexact Hmw
  isplitl [Hin]; · iexact Hin
  isplitl [Hout]; · iexact Hout
  isplitl [B0 B1 B2 B3 B4 B5 B6 B7 B8 B9 B10]
  · unfold scratch some_
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  isplitl [S0 S1 S2 S3 S4 S5 S6 S7 S8 S9 S10]
  · unfold zeros
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  isplitl [HO]
  · unfold owing
    iexists W
    isplitr
    · ipureintro; exact fun p hp => .inl hp
    · iexact HO
  iintro Hin Hout HB' HS' HO
  isplitl [Hin Hout]
  · isplitl [Hin]; · iexact Hin
    iexact Hout
  unfold scratch some_ zeros
  icases HB' with ⟨B0, B1, B2, B3, B4, B5, B6, B7, B8, B9, B10⟩
  icases HS' with ⟨S0, S1, S2, S3, S4, S5, S6, S7, S8, S9, S10⟩
  isplitl [B0 B1 B2 B3 B4 B5 B6 B7 B8 B9 B10 HB]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact HB
  isplitl [S0 S1 S2 S3 S4 S5 S6 S7 S8 S9 S10 HS]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HS
  iapply (owing_elim d L O W) $$ HO

theorem defs₀_vector (c : Fin τ.nSC) (s : Fin τ.nSub) :
    defs₀ (F := F) (.scVector c s) 1 ()
      = SparseCore.onTile hcore1 hsub1 (fun c s => cc1__sc_gather_body (F := F) (coordsV c s) hIdx (Memref.isWhole_whole _) hT0 (Memref.isWhole_whole _) hT1 (Memref.isWhole_whole _) hT2 (Memref.isWhole_whole _) hT3 (Memref.isWhole_whole _) hR (Memref.isWhole_whole _) hC (Memref.isWhole_whole _) hO0 (Memref.isWhole_whole _) hO1 (Memref.isWhole_whole _) hO2 (Memref.isWhole_whole _) hO3 (Memref.isWhole_whole _) sIdx (Memref.isWhole_whole _) sT0 (Memref.isWhole_whole _) sT1 (Memref.isWhole_whole _) sT2 (Memref.isWhole_whole _) sT3 (Memref.isWhole_whole _) sR (Memref.isWhole_whole _) sC (Memref.isWhole_whole _) sO0 (Memref.isWhole_whole _) sO1 (Memref.isWhole_whole _) sO2 (Memref.isWhole_whole _) sO3 (Memref.isWhole_whole _)
            cc1_scoped0 cc1_scoped1 cc1_scoped2 cc1_scoped3 cc1_scoped4 cc1_scoped5 cc1_scoped6 cc1_scoped7 cc1_scoped8 cc1_scoped9 cc1_scoped10) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- The same, in the form the obligation asks for. -/
theorem tile_body₃ (d : Dev nD) (L : grid1.Coords) (O : CellTallies nD τ sig (HIx 1)) (W : Waits sig (HIx 1)) (hO : ∀ g, O g none = 0) :
    iprop(levAts (K (F := F)).L (K (F := F)).lev ∗ emp ∗ goP X d L
        ∗ scopedBufs (thr d L) ∗ scopedSems0 (thr d L) ∗ owes (thr d L) O W)
      ⊢ wp frame (wpE (defs₀ (F := F)) 𝒱₀ (thr d L) none) Set.univ
          (cc1__sc_gather_body (F := F) L hIdx (Memref.isWhole_whole _) hT0 (Memref.isWhole_whole _) hT1 (Memref.isWhole_whole _) hT2 (Memref.isWhole_whole _) hT3 (Memref.isWhole_whole _) hR (Memref.isWhole_whole _) hC (Memref.isWhole_whole _) hO0 (Memref.isWhole_whole _) hO1 (Memref.isWhole_whole _) hO2 (Memref.isWhole_whole _) hO3 (Memref.isWhole_whole _) sIdx (Memref.isWhole_whole _) sT0 (Memref.isWhole_whole _) sT1 (Memref.isWhole_whole _) sT2 (Memref.isWhole_whole _) sT3 (Memref.isWhole_whole _) sR (Memref.isWhole_whole _) sC (Memref.isWhole_whole _) sO0 (Memref.isWhole_whole _) sO1 (Memref.isWhole_whole _) sO2 (Memref.isWhole_whole _) sO3 (Memref.isWhole_whole _)
            cc1_scoped0 cc1_scoped1 cc1_scoped2 cc1_scoped3 cc1_scoped4 cc1_scoped5 cc1_scoped6 cc1_scoped7 cc1_scoped8 cc1_scoped9 cc1_scoped10)
          fun _ => iprop(tdP X d L ∗ scopedBufs (thr d L) ∗ scopedSems0 (thr d L)
            ∗ ∃ W', ⌜∀ p ∈ W', p ∈ W ∨ p.2 = none ∨ p.2 = some 0⌝ ∗ owes (thr d L) O W') := by
  exact (tile_body X d L O W hO).trans (wp_mono frame _ _ fun _ => obl_post)

attribute [local irreducible] cc1__sc_gather_body goP tdP in
/-- Every tile of the call meets its obligation. -/
theorem tileObl : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]
  simp only [SparseCore.onTile, hc, and_self, ↓reduceDIte]
  change iprop(levAts _ _ ∗ emp ∗ goP X d (coordsV ⟨_, hc.1⟩ ⟨_, hc.2⟩) ∗ scopedBufs (thr d (coordsV ⟨_, hc.1⟩ ⟨_, hc.2⟩))
      ∗ scopedSems0 (thr d (coordsV ⟨_, hc.1⟩ ⟨_, hc.2⟩)) ∗ owes (thr d (coordsV ⟨_, hc.1⟩ ⟨_, hc.2⟩)) O W)
    ⊢ wp frame (wpE (defs₀ (F := F)) 𝒱₀ (thr d (coordsV ⟨_, hc.1⟩ ⟨_, hc.2⟩)) none) Set.univ _
        (fun _ => iprop(tdP X d (coordsV ⟨_, hc.1⟩ ⟨_, hc.2⟩) ∗ scopedBufs (thr d (coordsV ⟨_, hc.1⟩ ⟨_, hc.2⟩))
          ∗ scopedSems0 (thr d (coordsV ⟨_, hc.1⟩ ⟨_, hc.2⟩))
          ∗ ∃ W', ⌜∀ p ∈ W', p ∈ W ∨ p.2 = none ∨ p.2 = some 0⌝ ∗ owes (thr d (coordsV ⟨_, hc.1⟩ ⟨_, hc.2⟩)) O W'))
  exact tile_body₃ X d _ O W hO

end Cert.KernelIdeal.Hand
-- ==== Proof.KernelIdeal.Deal.lean ====
module

public import proofs.«01_k».proof.Proof.KernelIdeal.Pay

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Whole arrays and the tiles' parts of them -/

/-- One assertion for each tile, all together. -/
abbrev tiles (A : Fin 2 → Fin 16 → sProp 𝕄) : sProp 𝕄 := bigSep Finset.univ fun c : Fin 2 => bigSep Finset.univ fun i : Fin 16 => A c i

omit [FloatOps F] in
theorem tiles_sep (A B : Fin 2 → Fin 16 → sProp 𝕄) : tiles (fun c i => iprop(A c i ∗ B c i)) = iprop(tiles A ∗ tiles B) := by
  unfold tiles
  rw [← bigSep_sep']
  exact bigSep_congr fun c _ => bigSep_sep' _ _ _

omit [FloatOps F] in
theorem tiles_mono {A B : Fin 2 → Fin 16 → sProp 𝕄} (h : ∀ c i, A c i ⊢ B c i) : tiles A ⊢ tiles B :=
  bigSep_mono fun c _ => bigSep_mono fun i _ => h c i

omit [FloatOps F] in
/-- An array is its disjoint parts. -/
theorem whole_eq_tiles {ℓ : Loc nD τ sig} (Kp : Fin 2 → Fin 16 → Finset (Idx ℓ)) (f : Buf (Elt F) ℓ)
    (hd : ∀ c i c' i' x, x ∈ Kp c i → x ∈ Kp c' i' → c = c' ∧ i = i') (hc : ∀ x, ∃ c i, x ∈ Kp c i) :
    (ℓ ↦{fullShare} f : sProp 𝕄) = tiles fun c i => ℓ ↦[Kp c i]{fullShare} f := by
  classical
  have hall : (Finset.univ : Finset (Idx ℓ)) = Finset.univ.biUnion fun c : Fin 2 => Finset.univ.biUnion fun i : Fin 16 => Kp c i := by
    ext x
    obtain ⟨c, i, h⟩ := hc x
    simp only [Finset.mem_univ, Finset.mem_biUnion, _root_.true_and, _root_.true_iff]
    exact ⟨c, i, h⟩
  rw [show (ℓ ↦{fullShare} f : sProp 𝕄) = (ℓ ↦[Finset.univ]{fullShare} f : sProp 𝕄) from rfl, hall, pointsTo_biUnion]
  · refine bigSep_congr fun c _ => ?_
    rw [pointsTo_biUnion]
    intro i _ i' _ hne
    rw [Finset.disjoint_left]
    intro x hx hx'
    exact hne (hd c i c i' x hx hx').2
  · intro c _ c' _ hne
    rw [Finset.disjoint_left]
    intro x hx hx'
    obtain ⟨i, -, hi⟩ := Finset.mem_biUnion.mp hx
    obtain ⟨i', -, hi'⟩ := Finset.mem_biUnion.mp hx'
    exact hne (hd c i c' i' x hi hi').1

omit [FloatOps F] in
/-- An array is its shares, one for each tile. -/
theorem whole_eq_shares {ℓ : Loc nD τ sig} (f : Buf (Elt F) ℓ) :
    (ℓ ↦{fullShare} f : sProp 𝕄) = tiles fun c i => ℓ ↦{tok (coordsV c i)} f := by
  rw [show (ℓ ↦{fullShare} f : sProp 𝕄) = (ℓ ↦[Finset.univ]{fullShare} f : sProp 𝕄) from rfl,
    Transfers.pointsTo_deal (Finset.univ : Finset (Fin 2)) ⟨0, Finset.mem_univ _⟩ fullShare]
  refine bigSep_congr fun c _ => ?_
  rw [Transfers.pointsTo_deal (Finset.univ : Finset (Fin 16)) ⟨0, Finset.mem_univ _⟩]
  rfl

/-- The parts of a tile: the places of its number. -/
def places (c : Fin 2) (i : Fin 16) : Finset S16384.Idx := Finset.univ.filter fun j => (j 0).val / 512 = 2 * i.val + c.val

theorem places_disjoint (c : Fin 2) (i : Fin 16) (c' : Fin 2) (i' : Fin 16) (x : S16384.Idx) (h : x ∈ places c i) (h' : x ∈ places c' i') :
    c = c' ∧ i = i' := by
  simp only [places, Finset.mem_filter, Finset.mem_univ, _root_.true_and] at h h'
  have := c.isLt
  have := c'.isLt
  constructor <;> apply Fin.ext <;> omega

theorem places_cover (x : S16384.Idx) : ∃ c i, x ∈ places c i := by
  have hx : (x 0).val < 16384 := (x 0).isLt
  refine ⟨⟨(x 0).val / 512 % 2, by omega⟩, ⟨(x 0).val / 512 / 2, by omega⟩, ?_⟩
  simp only [places, Finset.mem_filter, Finset.mem_univ, _root_.true_and]
  omega

theorem wid_coordsV (c : Fin 2) (i : Fin 16) : wid (coordsV c i) = 2 * i.val + c.val := rfl

theorem mem_unit (L : grid1.Coords) (off : Fin 1 → ℕ) (hoff : off 0 = 512 * wid L) (inb : ∀ a, off a + S512.size a ≤ S16384.size a) (x : S16384.Idx) :
    x ∈ (Rect.unit (s := S16384) off S512.size inb).set ↔ (x 0).val / 512 = wid L := by
  rw [Rect.mem_set_unit]
  constructor
  · intro h
    have h0 := h 0
    have e : S512.size 0 = 512 := rfl
    rw [hoff, e] at h0
    omega
  · intro h a
    have ea : a = 0 := Subsingleton.elim _ _
    subst ea
    have e : S512.size 0 = 512 := rfl
    rw [hoff, e]
    omega

theorem places_eq_out (c : Fin 2) (i : Fin 16) : (Rect.unit (s := S16384) (k1_off3 (coordsV c i)) S512.size (k1_off3_inb (coordsV c i))).set = places c i := by
  ext x
  rw [mem_unit (coordsV c i) _ (off3_eq _), wid_coordsV]
  simp only [places, Finset.mem_filter, Finset.mem_univ, _root_.true_and]

theorem places_eq_idx (c : Fin 2) (i : Fin 16) : (Rect.unit (s := S16384) (k1_off2 (coordsV c i)) S512.size (k1_off2_inb (coordsV c i))).set = places c i := by
  ext x
  rw [mem_unit (coordsV c i) _ (off2_eq _), wid_coordsV]
  simp only [places, Finset.mem_filter, Finset.mem_univ, _root_.true_and]

/-! ## The call's operands and results, dealt and gathered -/

omit [FloatOps F] in
theorem tiles_sep5 (A0 A1 A2 A3 A4 : Fin 2 → Fin 16 → sProp 𝕄) :
    tiles (fun c i => iprop(A0 c i ∗ A1 c i ∗ A2 c i ∗ A3 c i ∗ A4 c i)) = iprop(tiles A0 ∗ tiles A1 ∗ tiles A2 ∗ tiles A3 ∗ tiles A4) := by
  rw [tiles_sep, tiles_sep, tiles_sep, tiles_sep]

omit [FloatOps F] in
theorem tiles_sep6 (A0 A1 A2 A3 A4 A5 : Fin 2 → Fin 16 → sProp 𝕄) :
    tiles (fun c i => iprop(A0 c i ∗ A1 c i ∗ A2 c i ∗ A3 c i ∗ A4 c i ∗ A5 c i))
      = iprop(tiles A0 ∗ tiles A1 ∗ tiles A2 ∗ tiles A3 ∗ tiles A4 ∗ tiles A5) := by
  rw [tiles_sep, tiles_sep5]

omit [FloatOps F] in
theorem sep_eq {A A' B B' : sProp 𝕄} (hA : A = A') (hB : B = B') : iprop(A ∗ B) = iprop(A' ∗ B') := by rw [hA, hB]

omit [FloatOps F] in
/-- A part of an array, by equal sets. -/
theorem part_pt (ℓ : Loc nD τ sig) {s s' : Finset (Idx ℓ)} (h : s = s') (f : Buf (Elt F) ℓ) :
    (ℓ ↦[s]{fullShare} f : sProp 𝕄) = (ℓ ↦[s']{fullShare} f : sProp 𝕄) := by rw [h]

variable (X : Cts F)

/-- Where a host array of device `d` lies. -/
abbrev at_ (d : Dev nD) (b : Ref sig .tc) : Loc nD τ sig := (SparseCore.T d : Thread nD τ).loc b

/-- The operands whole, at the call's contents. -/
def operands (d : Dev nD) : sProp 𝕄 :=
  iprop(((at_ d main_v21) ↦{fullShare} X.I d) ∗ ((at_ d main_v24) ↦{fullShare} X.T0 d) ∗ ((at_ d main_v27) ↦{fullShare} X.T1 d)
    ∗ ((at_ d main_v30) ↦{fullShare} X.T2 d) ∗ ((at_ d main_v31) ↦{fullShare} X.T3 d))

/-- The results whole, at given contents. -/
def results (d : Dev nD) (g0 g1 : S16384.Idx → BitVec 32) (g2 g3 g4 g5 : S16384.Idx → F .f32) : sProp 𝕄 :=
  iprop(((at_ d main_v32_0) ↦{fullShare} (g0 : Buf (Elt F) (at_ d main_v32_0))) ∗ ((at_ d main_v32_1) ↦{fullShare} (g1 : Buf (Elt F) (at_ d main_v32_1)))
    ∗ ((at_ d main_v32_2) ↦{fullShare} (g2 : Buf (Elt F) (at_ d main_v32_2))) ∗ ((at_ d main_v32_3) ↦{fullShare} (g3 : Buf (Elt F) (at_ d main_v32_3)))
    ∗ ((at_ d main_v32_4) ↦{fullShare} (g4 : Buf (Elt F) (at_ d main_v32_4))) ∗ ((at_ d main_v32_5) ↦{fullShare} (g5 : Buf (Elt F) (at_ d main_v32_5))))

/-- The operands whole are the tiles' operands. -/
theorem operands_eq (d : Dev nD) : operands X d = tiles fun c i => ins X d (coordsV c i) := by
  unfold operands
  rw [whole_eq_tiles (ℓ := at_ d main_v21) places (X.I d) places_disjoint places_cover,
    whole_eq_shares (ℓ := at_ d main_v24), whole_eq_shares (ℓ := at_ d main_v27), whole_eq_shares (ℓ := at_ d main_v30),
    whole_eq_shares (ℓ := at_ d main_v31), ← tiles_sep5]
  refine bigSep_congr fun c _ => bigSep_congr fun i _ => ?_
  unfold ins inputs
  exact sep_eq (part_pt (at_ d main_v21) ((places_eq_idx c i).symm.trans (View.set_slice_whole main_v21_scv _).symm) (X.I d)) rfl

/-- The results whole are the tiles' parts of them. -/
theorem results_eq (d : Dev nD) (g0 g1 : S16384.Idx → BitVec 32) (g2 g3 g4 g5 : S16384.Idx → F .f32) :
    results d g0 g1 g2 g3 g4 g5 = tiles fun c i => outsAt (F := F) d (coordsV c i) hR hC hO0 hO1 hO2 hO3 g0 g1 g2 g3 g4 g5 := by
  unfold results
  rw [whole_eq_tiles (ℓ := at_ d main_v32_0) places g0 places_disjoint places_cover,
    whole_eq_tiles (ℓ := at_ d main_v32_1) places g1 places_disjoint places_cover,
    whole_eq_tiles (ℓ := at_ d main_v32_2) places g2 places_disjoint places_cover,
    whole_eq_tiles (ℓ := at_ d main_v32_3) places g3 places_disjoint places_cover,
    whole_eq_tiles (ℓ := at_ d main_v32_4) places g4 places_disjoint places_cover,
    whole_eq_tiles (ℓ := at_ d main_v32_5) places g5 places_disjoint places_cover, ← tiles_sep6]
  refine bigSep_congr fun c _ => bigSep_congr fun i _ => ?_
  unfold outsAt
  exact sep_eq (part_pt (at_ d main_v32_0) ((places_eq_out c i).symm.trans (View.set_slice_whole main_v32_0_scv _).symm) g0)
    (sep_eq (part_pt (at_ d main_v32_1) ((places_eq_out c i).symm.trans (View.set_slice_whole main_v32_1_scv _).symm) g1)
    (sep_eq (part_pt (at_ d main_v32_2) ((places_eq_out c i).symm.trans (View.set_slice_whole main_v32_2_scv _).symm) g2)
    (sep_eq (part_pt (at_ d main_v32_3) ((places_eq_out c i).symm.trans (View.set_slice_whole main_v32_3_scv _).symm) g3)
    (sep_eq (part_pt (at_ d main_v32_4) ((places_eq_out c i).symm.trans (View.set_slice_whole main_v32_4_scv _).symm) g4)
      (part_pt (at_ d main_v32_5) ((places_eq_out c i).symm.trans (View.set_slice_whole main_v32_5_scv _).symm) g5)))))

/-- A tile's parts at given contents are its parts at some contents. -/
theorem outsAt_any (d : Dev nD) (L : grid1.Coords) (g0 g1 : S16384.Idx → BitVec 32) (g2 g3 g4 g5 : S16384.Idx → F .f32) :
    outsAt (F := F) d L hR hC hO0 hO1 hO2 hO3 g0 g1 g2 g3 g4 g5 ⊢ outsAny (F := F) d L hR hC hO0 hO1 hO2 hO3 := by
  unfold outsAt outsAny somePart
  iintro ⟨H0, H1, H2, H3, H4, H5⟩
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- What the call takes, from whole arrays. -/
theorem st_intro (d : Dev nD) (g0 g1 : S16384.Idx → BitVec 32) (g2 g3 g4 g5 : S16384.Idx → F .f32) :
    iprop(operands X d ∗ results d g0 g1 g2 g3 g4 g5) ⊢ bigSep Finset.univ fun c : Fin ((K (F := F)).nCore 0) => (P X).st 0 d c := by
  rw [operands_eq, results_eq, ← tiles_sep]
  refine (tiles_mono (B := fun c i => goP X d (coordsV c i)) fun c i => ?_).trans (Entails.of_eq rfl)
  unfold goP
  exact sep_mono .rfl (outsAt_any d _ g0 g1 g2 g3 g4 g5)

/-- What the call brings back, as whole arrays: the rows, the columns and the tables' entries of the indices. -/
theorem dn_elim (d : Dev nD) :
    (bigSep Finset.univ fun c : Fin ((K (F := F)).nCore 0) => (P X).dn 0 d c)
      ⊢ iprop(operands X d ∗ results d (outRow (X.I d)) (outCol (X.I d)) (outTab (X.I d) (X.T0 d)) (outTab (X.I d) (X.T1 d))
          (outTab (X.I d) (X.T2 d)) (outTab (X.I d) (X.T3 d))) := by
  rw [operands_eq, results_eq, ← tiles_sep]
  exact Entails.of_eq rfl

end Cert.KernelIdeal.Hand
-- ==== Proof.KernelIdeal.Main.lean ====
module

public import proofs.«01_k».proof.Proof.KernelIdeal.Hosts
public import proofs.«01_k».proof.Proof.KernelIdeal.Region
public import proofs.«01_k».proof.Proof.KernelIdeal.Deal

@[expose] public section

noncomputable section

namespace Cert.KernelIdeal.Hand

open Cert.KernelIdeal Cert.KernelIdeal.Gen
open Idealize.ShloMosaic Idealize.ShloMosaic.TcCoe
open Idealize.ShloMosaic.StableHlo (after held)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit)

variable {F : FTy → Type} [FloatOps F]

local notation "𝕄" => MT nD τ sig (HIx 1) (Elt F) ℕ UU ℕ

/-! ## The launch's elements -/

/-- The pipeline's rounds: the middle factor. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-- The middle factor owned with the counters is owned. -/
theorem own_EP (a : UP) (b : Counters) : (BI.own ((embR : Emb (UP × Counters) (MT nD τ sig (HIx 1) (Elt F) ℕ UU ℕ)) (a, b)) : sProp 𝕄)
    ⊢ iprop(BI.own (EP (F := F) a) ∗ BI.own (((Emb.inr : Emb Counters (UP × Counters)).trans embR : Emb Counters (MT nD τ sig (HIx 1) (Elt F) ℕ UU ℕ)) b)) :=
  own_pair_emb _ _ _

/-- The launch's element: the handshakes' rounds and the pipeline's rounds. -/
def u₀ : UU := (initOf (K (F := F)).hsCells (K (F := F)).hsToks,
  (initOf (Pipeline.cells (nD := nD) (τ := τ) (Pipeline.pin (pcfgs (F := F)) adm) cellOf_inj)
    (Pipeline.launchToks (nD := nD) (τ := τ) (Pipeline.pin (pcfgs (F := F)) adm) cellOf_inj), 1))

/-- What a device's TensorCore takes from it: the search pipeline's cells and tokens. -/
def ghost (d : Dev nD) : sProp 𝕄 :=
  iprop(cellsGhost (Pipeline.pin (pcfgs (F := F)) adm) EP 0 d ∗ toksInit (Pipeline.pin (pcfgs (F := F)) adm) EP 0 d)

theorem bigSep_none {I : Type} (s : Finset I) : (bigSep s fun _ => iprop(emp)) = (iprop(emp) : sProp 𝕄) := bigSep_emp_const s

/-- The launch's element is the handshakes' and every TensorCore's part. -/
theorem hu₀ (X : Cts F) : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P X).x q thr) := by
  unfold u₀
  iintro Hu
  ihave H := (ownU_pair _ _) $$ Hu
  icases H with ⟨HH, HR⟩
  ihave H := (own_EP _ _) $$ HR
  icases H with ⟨HP, -⟩
  imod (Pipeline.fund_ghost (nD := nD) (τ := τ) (Pipeline.pin (pcfgs (F := F)) adm) (EP (F := F)) cellOf_inj) $$ HP with ⟨Hc, Ht⟩
  imodintro
  isplitl [HH]; · iexact HH
  isplitl [Hc Ht]
  · have e : (fun d : Dev nD => (ghost d : sProp 𝕄)) = fun d => iprop((bigSep Finset.univ fun p : Fin 1 => cellsGhost (Pipeline.pin (pcfgs (F := F)) adm) EP p d)
        ∗ bigSep Finset.univ fun p : Fin 1 => toksInit (Pipeline.pin (pcfgs (F := F)) adm) EP p d) := by
      funext d
      rw [show (Finset.univ : Finset (Fin 1)) = {0} from rfl, bigSep_singleton, bigSep_singleton]
      rfl
    rw [e, bigSep_sep']
    isplitl [Hc] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The contents of the arrays along the program -/

section Contents

variable (m : (ℓ : Loc nD τ sig) → Buf (Elt F) ℓ)

abbrev rf (b : Ref sig .tc) : DevRef τ sig := Proc.devRef .tc b

/-- Before the search; -/
def VA (d : Dev nD) : Valuation τ sig (Elt F) := after opsA fun b => m (d, b)
/-- as the search reads it; -/
def VR (c : Dev nD) (b : Ref sig .tc) : Buf (Elt F) ((c : Thread nD τ).loc b) := VA m c (rf b)
/-- after the search; -/
def VB (d : Dev nD) : Valuation τ sig (Elt F) := Function.update (VA m d) (rf main_v17) (searched (VR m) d)
/-- before the gather. -/
def VC (d : Dev nD) : Valuation τ sig (Elt F) := after opsB (VB m d)

/-- The search's places, every one below the number of points. -/
def Found : Prop := ∀ (d : Dev nD) (j : S16384.Idx), ((VC m d (rf main_v21) : S16384.Idx → BitVec 32) j).toNat < 16384

variable {m} (hI : Found m)

/-- What the gather carries. -/
def cts : Cts F where
  I d := VC m d (rf main_v21)
  T0 d := VC m d (rf main_v24)
  T1 d := VC m d (rf main_v27)
  T2 d := VC m d (rf main_v30)
  T3 d := VC m d (rf main_v31)
  lt := hI

variable (m)

/-- After the gather, given the results' contents: the operands unchanged, -/
def VD (d : Dev nD) : Valuation τ sig (Elt F) :=
  Function.update (Function.update (Function.update (Function.update (Function.update (Function.update (VC m d)
    (rf main_v32_0) (outRow (VC m d (rf main_v21)))) (rf main_v32_1) (outCol (VC m d (rf main_v21))))
    (rf main_v32_2) (outTab (VC m d (rf main_v21)) (VC m d (rf main_v24)))) (rf main_v32_3) (outTab (VC m d (rf main_v21)) (VC m d (rf main_v27))))
    (rf main_v32_4) (outTab (VC m d (rf main_v21)) (VC m d (rf main_v30)))) (rf main_v32_5) (outTab (VC m d (rf main_v21)) (VC m d (rf main_v31)))
/-- and at the end. -/
def VE (d : Dev nD) : Valuation τ sig (Elt F) := after opsC (VD m d)

end Contents

/-! ## The gather's arrays among the program's -/

/-- The gather's operands, -/
def refsI : Finset (DevRef τ sig) := {rf main_v21, rf main_v24, rf main_v27, rf main_v30, rf main_v31}
/-- and its results. -/
def refsO : Finset (DevRef τ sig) := {rf main_v32_0, rf main_v32_1, rf main_v32_2, rf main_v32_3, rf main_v32_4, rf main_v32_5}

theorem mem_uc (b : Ref sig .tc) (h : b.isScoped = false) : rf b ∈ ucRefs :=
  Finset.mem_filter.mpr ⟨StableHlo.devRef_mem_tcRefs b, fun h' => Bool.false_ne_true (h.symm.trans h')⟩

theorem refsI_sub : refsI ⊆ ucRefs := by
  intro b hb
  simp only [refsI, Finset.mem_insert, Finset.mem_singleton] at hb
  rcases hb with rfl | rfl | rfl | rfl | rfl <;> exact mem_uc _ rfl

theorem refsO_sub : refsO ⊆ ucRefs \ refsI := by
  intro b hb
  refine Finset.mem_sdiff.mpr ⟨?_, ?_⟩
  · simp only [refsO, Finset.mem_insert, Finset.mem_singleton] at hb
    rcases hb with rfl | rfl | rfl | rfl | rfl | rfl <;> exact mem_uc _ rfl
  · revert b; decide

theorem held_refsI (d : Dev nD) (W : Valuation τ sig (Elt F)) : (held (SparseCore.T d) refsI W : sProp 𝕄)
    = iprop(((at_ d main_v21) ↦{fullShare} W (rf main_v21)) ∗ ((at_ d main_v24) ↦{fullShare} W (rf main_v24)) ∗ ((at_ d main_v27) ↦{fullShare} W (rf main_v27))
      ∗ ((at_ d main_v30) ↦{fullShare} W (rf main_v30)) ∗ ((at_ d main_v31) ↦{fullShare} W (rf main_v31))) := by
  unfold held refsI
  rw [SparseCore.bigSep_insert' (by decide), SparseCore.bigSep_insert' (by decide), SparseCore.bigSep_insert' (by decide),
    SparseCore.bigSep_insert' (by decide), bigSep_singleton]

theorem held_refsO (d : Dev nD) (W : Valuation τ sig (Elt F)) : (held (SparseCore.T d) refsO W : sProp 𝕄)
    = results d (W (rf main_v32_0)) (W (rf main_v32_1)) (W (rf main_v32_2)) (W (rf main_v32_3)) (W (rf main_v32_4)) (W (rf main_v32_5)) := by
  unfold held refsO results
  rw [SparseCore.bigSep_insert' (by decide), SparseCore.bigSep_insert' (by decide), SparseCore.bigSep_insert' (by decide),
    SparseCore.bigSep_insert' (by decide), SparseCore.bigSep_insert' (by decide), bigSep_singleton]

/-- The program's arrays are the gather's operands, its results and the rest. -/
theorem held_uc (d : Dev nD) (W : Valuation τ sig (Elt F)) : (held (SparseCore.T d) ucRefs W : sProp 𝕄)
    = iprop(held (SparseCore.T d) refsI W ∗ held (SparseCore.T d) refsO W ∗ held (SparseCore.T d) ((ucRefs \ refsI) \ refsO) W) := by
  rw [StableHlo.held_sub_split (SparseCore.T d) refsI_sub W, StableHlo.held_sub_split (SparseCore.T d) refsO_sub W]

section Run

variable (m : (ℓ : Loc nD τ sig) → Buf (Elt F) ℓ) (ρ : Dev nD → PrngReg)

theorem VD_of_not_mem (d : Dev nD) (b : DevRef τ sig) (h : b ∉ refsO) : VD m d b = VC m d b := by
  simp only [refsO, Finset.mem_insert, Finset.mem_singleton, not_or] at h
  obtain ⟨h0, h1, h2, h3, h4, h5⟩ := h
  unfold VD
  rw [Function.update_of_ne h5, Function.update_of_ne h4, Function.update_of_ne h3, Function.update_of_ne h2, Function.update_of_ne h1,
    Function.update_of_ne h0]

theorem VD_0 (d : Dev nD) : VD m d (rf main_v32_0) = outRow (VC m d (rf main_v21)) := by
  unfold VD
  rw [Function.update_of_ne (by decide), Function.update_of_ne (by decide), Function.update_of_ne (by decide), Function.update_of_ne (by decide),
    Function.update_of_ne (by decide), Function.update_self]
theorem VD_1 (d : Dev nD) : VD m d (rf main_v32_1) = outCol (VC m d (rf main_v21)) := by
  unfold VD
  rw [Function.update_of_ne (by decide), Function.update_of_ne (by decide), Function.update_of_ne (by decide), Function.update_of_ne (by decide),
    Function.update_self]
theorem VD_2 (d : Dev nD) : VD m d (rf main_v32_2) = outTab (VC m d (rf main_v21)) (VC m d (rf main_v24)) := by
  unfold VD
  rw [Function.update_of_ne (by decide), Function.update_of_ne (by decide), Function.update_of_ne (by decide), Function.update_self]
theorem VD_3 (d : Dev nD) : VD m d (rf main_v32_3) = outTab (VC m d (rf main_v21)) (VC m d (rf main_v27)) := by
  unfold VD
  rw [Function.update_of_ne (by decide), Function.update_of_ne (by decide), Function.update_self]
theorem VD_4 (d : Dev nD) : VD m d (rf main_v32_4) = outTab (VC m d (rf main_v21)) (VC m d (rf main_v30)) := by
  unfold VD
  rw [Function.update_of_ne (by decide), Function.update_self]
theorem VD_5 (d : Dev nD) : VD m d (rf main_v32_5) = outTab (VC m d (rf main_v21)) (VC m d (rf main_v31)) := by
  unfold VD
  rw [Function.update_self]

variable {m} (hI : Found m)

/-- The program's arrays before the gather give what the call takes; -/
theorem held_VC (d : Dev nD) : (held (SparseCore.T d) ucRefs (VC m d) : sProp 𝕄)
    ⊢ iprop((bigSep Finset.univ fun c : Fin ((K (F := F)).nCore 0) => (P (cts hI)).st 0 d c) ∗ held (SparseCore.T d) ((ucRefs \ refsI) \ refsO) (VC m d)) := by
  rw [held_uc, held_refsO, held_refsI]
  iintro ⟨Hi, Ho, Hr⟩
  isplitr [Hr]
  · iapply (st_intro (cts hI) d _ _ _ _ _ _)
    isplitl [Hi]; · unfold operands cts; iexact Hi
    iexact Ho
  · iexact Hr

/-- and what it brings back makes them whole again, at the contents after it. -/
theorem held_VD (d : Dev nD) : iprop((bigSep Finset.univ fun c : Fin ((K (F := F)).nCore 0) => (P (cts hI)).dn 0 d c) ∗ held (SparseCore.T d) ((ucRefs \ refsI) \ refsO) (VC m d))
    ⊢ (held (SparseCore.T d) ucRefs (VD m d) : sProp 𝕄) := by
  have e : (held (SparseCore.T d) ((ucRefs \ refsI) \ refsO) (VD m d) : sProp 𝕄) = held (SparseCore.T d) ((ucRefs \ refsI) \ refsO) (VC m d) :=
    StableHlo.held_congr _ fun b hb => VD_of_not_mem m d b (Finset.mem_sdiff.mp hb).2
  rw [held_uc, e, held_refsO, held_refsI, VD_0, VD_1, VD_2, VD_3, VD_4, VD_5, VD_of_not_mem m d (rf main_v21) (by decide), VD_of_not_mem m d (rf main_v24) (by decide),
    VD_of_not_mem m d (rf main_v27) (by decide), VD_of_not_mem m d (rf main_v30) (by decide), VD_of_not_mem m d (rf main_v31) (by decide)]
  iintro ⟨Hd, Hr⟩
  ihave H := (dn_elim (cts hI) d) $$ Hd
  icases H with ⟨Hi, Ho⟩
  isplitl [Hi]; · unfold operands cts; iexact Hi
  isplitl [Ho]; · iexact Ho
  iexact Hr

/-! ## The program on the TensorCore -/

theorem region_pre (V Vp : (c : Dev nD) → (b : Ref sig .tc) → Buf (Elt F) ((c : Thread nD τ).loc b)) (h₁ : ∀ c, Vp c main_v17 = searched V c)
    (h₂ : ∀ c (b : Ref sig .tc), b ≠ main_v17 → Vp c b = V c b) (c : Dev nD) : (region V Vp h₁ h₂).pre c = iprop(unscopedBufs c (V c) ∗ debts c) := rfl
theorem region_post (V Vp : (c : Dev nD) → (b : Ref sig .tc) → Buf (Elt F) ((c : Thread nD τ).loc b)) (h₁ : ∀ c, Vp c main_v17 = searched V c)
    (h₂ : ∀ c (b : Ref sig .tc), b ≠ main_v17 → Vp c b = V c b) (c : Dev nD) : (region V Vp h₁ h₂).post c = iprop(unscopedBufs c (Vp c) ∗ debts c) := rfl

/-- The search's call: the program's arrays before it become those after it. -/
theorem wp_call (X : Cts F) (κ : GSem nD τ sig → ℕ) (d : Dev nD) (Φ : PUnit → sProp 𝕄) :
    iprop((K (F := F)).ctx EH (P X) κ ∗ ghost d ∗ boundary (SparseCore.T d) ∗ held (SparseCore.T d) ucRefs (VA m d) ∗ debts d
        ∗ ((boundary (SparseCore.T d) ∗ held (SparseCore.T d) ucRefs (VB m d) ∗ debts d) -∗ Φ ⟨⟩))
      ⊢ wp frame (wpE ((K (F := F)).defs (D (F := F))) 𝒱 (SparseCore.T d) none) Set.univ
          (Prog.lift (.customCall (SparseCore.inner (Pipeline.entry 0)) ())) Φ := by
  have hb (c : Dev nD) : VB m c (rf main_v17) = searched (VR m) c := Function.update_self _ _ _
  have hne (c : Dev nD) (b : Ref sig .tc) (h : b ≠ main_v17) : VB m c (rf b) = VR m c b :=
    Function.update_of_ne (fun e => h (Proc.devRef_injective .tc e)) _ _
  iintro ⟨#Hctx, HG, Hb, Hh, Hd, Hk⟩
  iapply ((K (F := F)).wp_liftProg (D (F := F)) 𝒱 (SparseCore.T d) Set.univ none
    (.op (.customCall (Pipeline.entry (P := Fin 1) 0) ()) fun x => .ret x) Φ)
  iapply (Pipeline.RegionSeg.wp (pcfgs (F := F)) adm (pdats (VR m)) none cellOf_inj EP defs₀ 𝒱₀ (K (F := F)).L (K (F := F)).lev
    (region (VR m) (fun c b => VB m c (rf b)) hb hne) d none (fun _ h => nomatch h) (fun x => .ret x) Φ)
  isplitl [Hk]
  · iintro ⟨Hb, Hp⟩
    rw [wp_ret]; imodintro
    iapply Hk
    isplitl [Hb]; · iexact Hb
    ihave H := (Entails.of_eq (region_post (VR m) (fun c b => VB m c (rf b)) hb hne d)) $$ Hp
    icases H with ⟨Hh, Hd⟩
    isplitl [Hh]; · iapply (Entails.of_eq (unscopedBufs_held d (VB m d))); iexact Hh
    iexact Hd
  isplitl [Hb]; · iexact Hb
  isplitl [Hh Hd]
  · iapply (Entails.of_eq (region_pre (VR m) (fun c b => VB m c (rf b)) hb hne d).symm)
    isplitl [Hh]; · iapply (Entails.of_eq (unscopedBufs_held d (VA m d)).symm); iexact Hh
    iexact Hd
  isplitr; · iapply ((K (F := F)).ctx_levAts κ); iexact Hctx
  unfold ghost
  iexact HG

/-- A TensorCore's state before the gather: its debts and the rest. -/
def stRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp 𝕄) = iprop(debts d ∗ stRest d) := rfl

/-- The program on a device's TensorCore: the straight lines, the search between the first two and the gather between
    the last two; at its end every array is at its contents. -/
theorem hmain (κ : GSem nD τ sig → ℕ) (d : Dev nD) :
    iprop((K (F := F)).ctx EH (P (cts hI)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ held (SparseCore.T d) ucRefs (VE m d) ∗ (K (F := F)).tcEnd d) := by
  unfold SparseCore.Cfg.tcRes SparseCore.Cfg.tcEnd
  rw [main_eq, show (unscopedBufs d fun b => m ((SparseCore.T d : Thread nD τ).loc b) : sProp 𝕄) = held (SparseCore.T d) ucRefs fun b => m (d, b) from
    unscopedBufs_held d fun b => m (d, b)]
  iintro ⟨#Hctx, Hst, ⟨Hb, Hheld, Hts, -⟩, HG⟩
  iapply (StableHlo.wp_seq 𝒱 none Set.univ d ucRefs _ opsA opsA_sub opsA_fresh _) $$ [Hb Hheld]
  · isplitl [Hb] <;> iassumption
  iintro ⟨Hb, Hheld⟩
  rw [wp_bind]
  ihave H := (Entails.of_eq (tcSt_zero d)) $$ Hst
  icases H with ⟨Hdebt, Hst⟩
  iapply (wp_call (cts hI) κ d _)
  isplitr; · iexact Hctx
  isplitl [HG]; · iexact HG
  isplitl [Hb]; · iexact Hb
  isplitl [Hheld]; · iexact Hheld
  isplitl [Hdebt]; · iexact Hdebt
  iintro ⟨Hb, Hheld, Hdebt⟩
  iapply (StableHlo.wp_seq 𝒱 none Set.univ d ucRefs _ opsB opsB_sub opsB_fresh _) $$ [Hb Hheld]
  · isplitl [Hb] <;> iassumption
  iintro ⟨Hb, Hheld⟩
  rw [wp_bind]
  have hVC : (held d.tc ucRefs (after opsB (VB m d)) : sProp 𝕄) ⊢ _ := held_VC hI d
  ihave H := hVC $$ Hheld
  icases H with ⟨Hgo, Hrest⟩
  iapply ((K (F := F)).wp_run (D (F := F)) 𝒱 (EH := EH) (P := P (cts hI)) κ d 0)
  isplitr; · iexact Hctx
  isplitl [Hst Hdebt]
  · iapply (Entails.of_eq (tcSt_zero d).symm)
    isplitl [Hdebt]; · iexact Hdebt
    iexact Hst
  isplitl [Hgo]; · iexact Hgo
  iintro ⟨Hst, Hdn⟩
  ihave Hheld := (held_VD hI d) $$ [Hdn Hrest]
  · isplitl [Hdn] <;> iassumption
  iapply (StableHlo.wp_seq 𝒱 none Set.univ d ucRefs _ opsC opsC_sub opsC_fresh _) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The run -/

include hI in
/-- The program runs to its end from any contents at which the search finds places below the number of points, every
    array at its contents there and no semaphore signalled. -/
theorem run [∀ e, Nonempty (Elt F e)] : θ_run (defs (F := F)) (threads (F := F)) ⟨m, fun _ => 0, ρ⟩
    (fun r => (∀ d : Dev nD, ∀ b ∈ ucRefs, r.2.mem (d, b) = VE m d b) ∧ r.2.sem = fun _ => 0) :=
  SparseCore.Cfg.θ_run_sc_quiescent (K := K (F := F)) (D := D (F := F)) (𝒱 := 𝒱) (EH := EH) (P := P (cts hI)) (A := ∅) scFacts v₀
    (fun q hq => match q with | 0 => nomatch hq)
    (fun q _ => match q with | 0 => tileObl (cts hI))
    (fun q _ => match q with | 0 => SparseCore.Cfg.VecSplit.of_plain (vecSplit (cts hI)))
    m ρ main (fun d => ghost d) (fun d => held (SparseCore.T d) ucRefs (VE m d)) (u₀ (F := F)) (sep_elim_left.trans (hu₀ (cts hI))) (hmain ρ hI)
    (fun d s' => ∀ b ∈ ucRefs, s'.mem.mem (d, b) = VE m d b) (fun d s' => held_agree d ucRefs (VE m d) s') _ (fun _ h hz => ⟨h, hz⟩)

end Run

end Cert.KernelIdeal.Hand
-- ==== Proof.KernelIdeal.Values.lean ====
module

public import proofs.«01_k».proof.Proof.KernelIdeal.Spec
public import proofs.«01_k».proof.Proof.KernelIdeal.Search
public import proofs.«01_k».proof.Proof.KernelIdeal.Main
public import Idealize.ShloMosaic.Lib.StableHlo.ReadAt
public import Idealize.ShloMosaic.Lib.Routing.Ops
public import Idealize.ShloMosaic.Lib.Routing.OpsPair
public import Idealize.ShloMosaic.Lib.Routing.Words
public import Idealize.ShloMosaic.Lib.WordCmp
public import Idealize.ShloMosaic.Lib.Pointwise

@[expose] public section

set_option maxRecDepth 20000

/-! # What the kernel's program leaves, over the reals -/

noncomputable section

namespace Cert.KernelIdeal.Hand

open Cert.KernelIdeal
open Idealize.ShloMosaic Idealize.ShloMosaic.StableHlo
open Cert.KernelIdeal.Facts₀
open Cert.Spec Cert.Least

variable (m : (x : Loc nD τ sig) → Buf (Elt Ideal) x) (d : Dev nD)

/-- The points the program starts from, -/
abbrev pts : SX.Idx → EReal := m (d, rf main_arg0)
/-- and their weights. -/
abbrev cnf : SC.Idx → EReal := m (d, rf main_arg1)

/-! ## Before the search -/

/-- The row the program sorts is the first view's weights. -/
theorem row_eq (j : Fin 16384) : (VA m d (Proc.devRef .tc main_v2) : S16384.Idx → EReal) (ix1 j) = weight (cnf m d) 0 j := by
  unfold VA opsA weight cnf
  after_reads_at

/-- Every view's points by component, -/
theorem parts_eq (s : Fin 8) (k : Fin 3) (n : Fin 16384) :
    (VA m d (Proc.devRef .tc main_v14) : S8x3x16384.Idx → EReal) (ix3 s k n) = point (pts m d) s n k := by
  unfold VA opsA point
  after_reads_at

/-- those of every view but the first, -/
theorem keys_eq (v : Fin 7) (k : Fin 3) (n : Fin 16384) :
    (VA m d (Proc.devRef .tc main_v16) : S7x3x16384.Idx → EReal) (ix3 v k n) = point (pts m d) v.succ n k := by
  unfold VA opsA point
  after_reads_at
  rw [show v.succ = ⟨1 + v.val, by omega⟩ from Fin.ext (by rw [Fin.val_succ, Nat.add_comm])]

/-- every view's weights, -/
theorem weights_eq (s : Fin 8) (n : Fin 16384) :
    (VA m d (Proc.devRef .tc main_v15) : S8x16384.Idx → EReal) (ix2 s n) = weight (cnf m d) s n := by
  unfold VA opsA weight
  after_reads_at

/-- the first view's points, -/
theorem first_eq (n : Fin 16384) (k : Fin 3) :
    (VA m d (Proc.devRef .tc main_v5) : S16384x3.Idx → EReal) (ix2 n k) = point (pts m d) 0 n k := by
  unfold VA opsA point
  after_reads_at

/-- and the tracked places. -/
theorem indices_eq : (VA m d (Proc.devRef .tc main_indices) : S2048.Idx → BitVec 32) = tracked (cnf m d) := by
  have h : (VA m d (Proc.devRef .tc main_indices) : S2048.Idx → BitVec 32)
      = tops (VA m d (Proc.devRef .tc main_v2) : S16384.Idx → EReal) := by
    unfold VA opsA tops
    after_reads_simp
  rw [h]
  unfold tracked
  congr 1
  funext j
  idx_vars j
  exact row_eq m d _

/-- The table of places the first gather reads holds the tracked places. -/
theorem starts_eq (q : Fin 2048) :
    (VA m d (Proc.devRef .tc main_v11) : S2048x1.Idx → BitVec 32) (ix2 q 0) = tracked (cnf m d) (ix1 q) := by
  have h : (VA m d (Proc.devRef .tc main_v11) : S2048x1.Idx → BitVec 32) (ix2 q 0)
      = Scalar.select (IntOp.cmpi .slt ((VA m d (Proc.devRef .tc main_indices) : S2048.Idx → BitVec 32) (ix1 q)) 0#32)
          (IntOp.addi ((VA m d (Proc.devRef .tc main_indices) : S2048.Idx → BitVec 32) (ix1 q)) 16384#32)
          ((VA m d (Proc.devRef .tc main_indices) : S2048.Idx → BitVec 32) (ix1 q)) := by
    unfold VA opsA
    after_reads_at
  rw [h, indices_eq, Routing.wrap_of_lt]
  exact (tops_lt _ _).trans (by norm_num)

/-- The points searched for are the tracked points. -/
theorem queries_eq (q : Fin 2048) (k : Fin 3) :
    (VA m d (Proc.devRef .tc main_v12) : S2048x3.Idx → EReal) (ix2 q k) = query (pts m d) (cnf m d) q k := by
  have h : (VA m d (Proc.devRef .tc main_v12) : S2048x3.Idx → EReal)
      = Host.gather gather_S16384x3_S2048x1_S2048x3_1_0_n_n_0_1_13 (VA m d (Proc.devRef .tc main_v5) : S16384x3.Idx → EReal)
          (VA m d (Proc.devRef .tc main_v11) : S2048x1.Idx → BitVec 32) := by
    unfold VA opsA
    after_reads_simp
  rw [h, ix2_eq_valueIdx]
  refine (Routing.gather_row (nb := 16384) (B := 3) (n := 2048) _ rfl rfl rfl rfl rfl _ _ q k (place (tracked (cnf m d) (ix1 q))) ?_ (by norm_num)).trans ?_
  · rw [← ix2_eq_valueIdx]
    refine (starts_eq m d q).trans (BitVec.eq_of_toNat_eq ?_)
    have := tops_lt (fun j => weight (cnf m d) 0 (j 0)) (ix1 q)
    unfold place tracked
    rw [BitVec.toNat_ofNat]
    dsimp only
    omega
  · rw [← ix2_eq_valueIdx]
    exact first_eq m d _ k

/-! ## Between the search and the gather -/

/-- The search changes its result only. -/
theorem VB_of_ne (b : DevRef τ sig) (h : b ≠ rf main_v17) : VB m d b = VA m d b := by
  unfold VB
  exact Function.update_of_ne h _ _

/-- The places of every view, in one table. -/
def found (s : Fin 8) (q : Fin 2048) : BitVec 32 := (VC m d (Proc.devRef .tc main_v20) : S8x2048.Idx → BitVec 32) (ix2 s q)

/-- The first view's are the tracked places, -/
theorem found_zero (q : Fin 2048) : found m d 0 q = tracked (cnf m d) (ix1 q) := by
  have h : found m d 0 q = (VB m d (Proc.devRef .tc main_indices) : S2048.Idx → BitVec 32) (ix1 q) := by
    unfold found VC opsB
    after_reads_at
  rw [h, VB_of_ne m d _ (by decide), indices_eq]

/-- the others' what the search leaves. -/
theorem found_succ (v : Fin 7) (q : Fin 2048) :
    found m d v.succ q = (searched (VR m) d : S7x2048x1.Idx → BitVec 32) (ix3 v q 0) := by
  have h : found m d v.succ q = (VB m d (Proc.devRef .tc main_v17) : S7x2048x1.Idx → BitVec 32) (ix3 v q 0) := by
    unfold found VC opsB
    after_reads_at
    rw [dif_neg (by rw [Fin.val_succ]; omega), show (⟨v.succ.val - 1, by rw [Fin.val_succ]; omega⟩ : Fin 7) = v from Fin.ext (by show v.succ.val - 1 = v.val; rw [Fin.val_succ]; exact Nat.add_sub_cancel _ _)]
  rw [h]
  unfold VB
  rw [Function.update_self]

/-- They are the places sought. -/
theorem found_places : Places (pts m d) (cnf m d) (found m d) := by
  refine ⟨found_zero m d, fun v q => ?_⟩
  rw [found_succ]
  have h := searched_nearest (VR m) d v q
  unfold Nearest at h
  have e : (fun n : Fin 16384 => dist (fun a => (VR m d main_v12 : S2048x3.Idx → EReal) (ix2 q a)) (fun a => (VR m d main_v16 : S7x3x16384.Idx → EReal) (ix3 v a n)))
      = fun n => dist (query (pts m d) (cnf m d) q) (point (pts m d) v.succ n) := by
    funext n
    congr 1
    · funext a; exact queries_eq m d q a
    · funext a; exact keys_eq m d v a n
  exact e ▸ h

/-- The list the gather reads is that table, view after view; -/
theorem list_eq (j : Fin 16384) : (VC m d (Proc.devRef .tc main_v21) : S16384.Idx → BitVec 32) (ix1 j)
    = found m d ⟨j.val / 2048, by omega⟩ ⟨j.val % 2048, by omega⟩ := by
  have h : (VC m d (Proc.devRef .tc main_v21) : S16384.Idx → BitVec 32) (ix1 j)
      = (VC m d (Proc.devRef .tc main_v20) : S8x2048.Idx → BitVec 32) (ix2 ⟨j.val / 2048, by omega⟩ ⟨j.val % 2048, by omega⟩) := by
    unfold VC opsB
    after_reads_at
    after_reads_at
  exact h

/-- so every place in it is one of a view. -/
theorem found_lt : Found m := fun d j => by
  idx_vars j
  have h := list_eq m d ‹_›
  rw [h]
  exact (found_places m d).lt _ _

/-- The four tables it reads hold the points' first components, -/
theorem table0_eq (t : Fin 131072) : (VC m d (Proc.devRef .tc main_v24) : S131072.Idx → EReal) (ix1 t)
    = point (pts m d) ⟨t.val / 16384, by omega⟩ ⟨t.val % 16384, by omega⟩ 0 := by
  have h : (VC m d (Proc.devRef .tc main_v24) : S131072.Idx → EReal) (ix1 t)
      = (VB m d (Proc.devRef .tc main_v14) : S8x3x16384.Idx → EReal) (ix3 ⟨t.val / 16384, by omega⟩ 0 ⟨t.val % 16384, by omega⟩) := by
    unfold VC opsB
    after_reads_at
  rw [h, VB_of_ne m d _ (by decide), parts_eq]

/-- the second, -/
theorem table1_eq (t : Fin 131072) : (VC m d (Proc.devRef .tc main_v27) : S131072.Idx → EReal) (ix1 t)
    = point (pts m d) ⟨t.val / 16384, by omega⟩ ⟨t.val % 16384, by omega⟩ 1 := by
  have h : (VC m d (Proc.devRef .tc main_v27) : S131072.Idx → EReal) (ix1 t)
      = (VB m d (Proc.devRef .tc main_v14) : S8x3x16384.Idx → EReal) (ix3 ⟨t.val / 16384, by omega⟩ 1 ⟨t.val % 16384, by omega⟩) := by
    unfold VC opsB
    after_reads_at
  rw [h, VB_of_ne m d _ (by decide), parts_eq]

/-- the third, -/
theorem table2_eq (t : Fin 131072) : (VC m d (Proc.devRef .tc main_v30) : S131072.Idx → EReal) (ix1 t)
    = point (pts m d) ⟨t.val / 16384, by omega⟩ ⟨t.val % 16384, by omega⟩ 2 := by
  have h : (VC m d (Proc.devRef .tc main_v30) : S131072.Idx → EReal) (ix1 t)
      = (VB m d (Proc.devRef .tc main_v14) : S8x3x16384.Idx → EReal) (ix3 ⟨t.val / 16384, by omega⟩ 2 ⟨t.val % 16384, by omega⟩) := by
    unfold VC opsB
    after_reads_at
  rw [h, VB_of_ne m d _ (by decide), parts_eq]

/-- and the weights. -/
theorem table3_eq (t : Fin 131072) : (VC m d (Proc.devRef .tc main_v31) : S131072.Idx → EReal) (ix1 t)
    = weight (cnf m d) ⟨t.val / 16384, by omega⟩ ⟨t.val % 16384, by omega⟩ := by
  have h : (VC m d (Proc.devRef .tc main_v31) : S131072.Idx → EReal) (ix1 t)
      = (VB m d (Proc.devRef .tc main_v15) : S8x16384.Idx → EReal) (ix2 ⟨t.val / 16384, by omega⟩ ⟨t.val % 16384, by omega⟩) := by
    unfold VC opsB
    after_reads_at
  rw [h, VB_of_ne m d _ (by decide), weights_eq]

/-! ## A place's row and column -/

/-- The row of a place in its grid is its number over the width. -/
theorem rowW_eq (w : BitVec 32) (hw : w.toNat < 16384) : rowW w = BitVec.ofNat 32 (w.toNat / 128) := by
  obtain ⟨a, ha, rfl⟩ : ∃ a, a < 16384 ∧ w = BitVec.ofNat 32 a := ⟨w.toNat, hw, BitVec.eq_of_toNat_eq (by rw [BitVec.toNat_ofNat]; omega)⟩
  rw [show (BitVec.ofNat 32 a).toNat = a by rw [BitVec.toNat_ofNat]; omega]
  unfold rowW rowOf lanes
  pointwise
  have hd : Scalar.subi (Scalar.extui (Scalar.cmpi CmpIPredicate.sgt 128#32 0#32)) (Scalar.extui (Scalar.cmpi CmpIPredicate.slt 128#32 0#32)) = 1#32 := by decide
  rw [hd, Routing.remsi_word .vector (a := a) (b := 128) (by omega) (by omega) (by omega),
    Routing.divsi_word .vector (a := a) (b := 128) (by omega) (by omega) (by omega)]
  rcases Nat.eq_zero_or_pos a with h0 | h0
  · subst h0; decide
  · have hs : IntOp.subi (BitVec.setWidth 32 (IntOp.cmpi CmpIPredicate.sgt (BitVec.ofNat 32 a) 0#32))
        (BitVec.setWidth 32 (IntOp.cmpi CmpIPredicate.slt (BitVec.ofNat 32 a) 0#32)) = 1#32 := by
      rw [WordCmp.cmpi_sgt_ofNat (w := 32) (a := a) (b := 0) (by omega) (by omega), WordCmp.cmpi_slt_ofNat (w := 32) (a := a) (b := 0) (by omega) (by omega),
        decide_eq_true h0, decide_eq_false (Nat.not_lt_zero a)]
      decide
    rw [hs]
    exact Routing.select_zero_and _ _ _

/-- The column is the remainder. -/
theorem colW_eq (w : BitVec 32) (hw : w.toNat < 16384) : colW w = BitVec.ofNat 32 (w.toNat % 128) := by
  obtain ⟨a, ha, rfl⟩ : ∃ a, a < 16384 ∧ w = BitVec.ofNat 32 a := ⟨w.toNat, hw, BitVec.eq_of_toNat_eq (by rw [BitVec.toNat_ofNat]; omega)⟩
  rw [show (BitVec.ofNat 32 a).toNat = a by rw [BitVec.toNat_ofNat]; omega]
  unfold colW colOf lanes
  pointwise
  have hd : width = 128#32 := by decide
  rw [hd, Routing.remsi_word .vector (a := a) (b := 128) (by omega) (by omega) (by omega),
    WordCmp.cmpi_slt_ofNat (w := 32) (a := a % 128) (b := 0) (by omega) (by omega), decide_eq_false (Nat.not_lt_zero _)]
  have hx : IntOp.xori (BitVec.ofBool false) (Scalar.cmpi CmpIPredicate.slt 128#32 0#32) = 0#1 := by decide
  rw [hx]
  unfold Scalar.select IntOp.andi
  rw [BitVec.zero_and]
  rfl

/-! ## The results -/

/-- The list's element of a view and a tracked place. -/
theorem list_at (s : Fin 8) (q : Fin 2048) :
    (VC m d (Proc.devRef .tc main_v21) : S16384.Idx → BitVec 32) (ix1 ⟨s.val * 2048 + q.val, by omega⟩) = found m d s q := by
  rw [list_eq]
  congr 1 <;> apply Fin.ext <;> dsimp only <;> omega

/-- The table's element that the list's element names. -/
theorem tabIx_at (s : Fin 8) (q : Fin 2048) (w : BitVec 32) :
    tabIx (ix1 ⟨s.val * 2048 + q.val, by omega⟩) w = ix1 ⟨16384 * s.val + (place w).val, by omega⟩ := by
  funext a
  have e : a = 0 := Subsingleton.elim _ _
  subst e
  apply Fin.ext
  show 16384 * ((s.val * 2048 + q.val) / 2048) + w.toNat % 16384 = 16384 * s.val + w.toNat % 16384
  omega

/-- What the gather reads of a table that holds `P` of every view. -/
theorem outTab_at {T : S131072.Idx → EReal} {P : Fin 8 → Fin 16384 → EReal}
    (h : ∀ t : Fin 131072, T (ix1 t) = P ⟨t.val / 16384, by omega⟩ ⟨t.val % 16384, by omega⟩) (s : Fin 8) (q : Fin 2048) :
    outTab (F := Ideal) (VC m d (Proc.devRef .tc main_v21)) T (ix1 ⟨s.val * 2048 + q.val, by omega⟩) = P s (place (found m d s q)) := by
  unfold outTab
  rw [list_at, tabIx_at, h]
  have hp := (place (found m d s q)).isLt
  congr 1 <;> apply Fin.ext <;> dsimp only <;> omega

/-- The list's rows, -/
theorem outRow_at (s : Fin 8) (q : Fin 2048) : outRow (VC m d (Proc.devRef .tc main_v21)) (ix1 ⟨s.val * 2048 + q.val, by omega⟩)
    = BitVec.ofNat 32 ((found m d s q).toNat / 128) := by
  unfold outRow
  rw [list_at m d s q, rowW_eq _ ((found_places m d).lt s q)]

/-- and its columns. -/
theorem outCol_at (s : Fin 8) (q : Fin 2048) : outCol (VC m d (Proc.devRef .tc main_v21)) (ix1 ⟨s.val * 2048 + q.val, by omega⟩)
    = BitVec.ofNat 32 ((found m d s q).toNat % 128) := by
  unfold outCol
  rw [list_at m d s q, colW_eq _ ((found_places m d).lt s q)]

/-- The first result's elements are the two lists' in turn; -/
theorem VE_v37 (s : Fin 8) (q : Fin 2048) (k : Fin 2) : (VE m d (Proc.devRef .tc main_v37) : SM.Idx → BitVec 32) (ix3 s q k)
    = if _h : k.val < 1 then (VD m d (Proc.devRef .tc main_v32_0) : S16384.Idx → BitVec 32) (ix1 ⟨s.val * 2048 + q.val, by omega⟩)
      else (VD m d (Proc.devRef .tc main_v32_1) : S16384.Idx → BitVec 32) (ix1 ⟨s.val * 2048 + q.val, by omega⟩) := by
  unfold VE opsC
  after_reads_at

/-- the second's are the three components' in turn. -/
theorem VE_v44 (s : Fin 8) (q : Fin 2048) (k : Fin 3) : (VE m d (Proc.devRef .tc main_v44) : SP.Idx → EReal) (ix3 s q k)
    = if _h : k.val < 1 then (VD m d (Proc.devRef .tc main_v32_2) : S16384.Idx → EReal) (ix1 ⟨s.val * 2048 + q.val, by omega⟩)
      else if _h : k.val - 1 < 1 then (VD m d (Proc.devRef .tc main_v32_3) : S16384.Idx → EReal) (ix1 ⟨s.val * 2048 + q.val, by omega⟩)
      else (VD m d (Proc.devRef .tc main_v32_4) : S16384.Idx → EReal) (ix1 ⟨s.val * 2048 + q.val, by omega⟩) := by
  unfold VE opsC
  after_reads_at
  after_reads_at

/-- The first result holds the places' rows and columns. -/
theorem VE_cells : (VE m d (Proc.devRef .tc main_v37) : SM.Idx → BitVec 32) = cells (found m d) := by
  funext j
  obtain ⟨s, q, k, rfl⟩ : ∃ (s : Fin 8) (q : Fin 2048) (k : Fin 2), j = ix3 s q k := ⟨j 0, j 1, j 2, by idx_vars j⟩
  refine (VE_v37 m d s q k).trans ?_
  rw [VD_0 m d, VD_1 m d, outRow_at m d s q, outCol_at m d s q]
  show _ = if k.val < 1 then _ else _
  fin_cases k <;> rfl

/-- The second holds the points there, -/
theorem VE_points : (VE m d (Proc.devRef .tc main_v44) : SP.Idx → EReal) = points (pts m d) (found m d) := by
  funext j
  obtain ⟨s, q, k, rfl⟩ : ∃ (s : Fin 8) (q : Fin 2048) (k : Fin 3), j = ix3 s q k := ⟨j 0, j 1, j 2, by idx_vars j⟩
  refine (VE_v44 m d s q k).trans ?_
  rw [VD_2 m d, VD_3 m d, VD_4 m d,
    outTab_at m d (P := fun s n => point (pts m d) s n 0) (table0_eq m d) s q,
    outTab_at m d (P := fun s n => point (pts m d) s n 1) (table1_eq m d) s q,
    outTab_at m d (P := fun s n => point (pts m d) s n 2) (table2_eq m d) s q]
  show _ = point (pts m d) s (place (found m d s q)) k
  fin_cases k <;> rfl

/-- the third their weights. -/
theorem VE_weights : (VE m d (Proc.devRef .tc main_v45) : SW.Idx → EReal) = weights (cnf m d) (found m d) := by
  funext j
  idx_vars j
  unfold VE opsC
  after_reads_at
  rw [VD_5]
  exact outTab_at m d (table3_eq m d) j0 j1

/-- The arguments are never written. -/
theorem VE_arg0 : VE m d (Proc.devRef .tc main_arg0) = m (d, Proc.devRef .tc main_arg0) := by
  have h1 : VE m d (Proc.devRef .tc main_arg0) = VD m d (Proc.devRef .tc main_arg0) := by unfold VE opsC; after_reads_simp
  have h2 : VC m d (Proc.devRef .tc main_arg0) = VB m d (Proc.devRef .tc main_arg0) := by unfold VC opsB; after_reads_simp
  have h3 : VA m d (Proc.devRef .tc main_arg0) = m (d, Proc.devRef .tc main_arg0) := by unfold VA opsA; after_reads_simp
  rw [h1, VD_of_not_mem m d _ (by decide), h2, VB_of_ne m d _ (by decide), h3]

/-- Neither of them. -/
theorem VE_arg1 : VE m d (Proc.devRef .tc main_arg1) = m (d, Proc.devRef .tc main_arg1) := by
  have h1 : VE m d (Proc.devRef .tc main_arg1) = VD m d (Proc.devRef .tc main_arg1) := by unfold VE opsC; after_reads_simp
  have h2 : VC m d (Proc.devRef .tc main_arg1) = VB m d (Proc.devRef .tc main_arg1) := by unfold VC opsB; after_reads_simp
  have h3 : VA m d (Proc.devRef .tc main_arg1) = m (d, Proc.devRef .tc main_arg1) := by unfold VA opsA; after_reads_simp
  rw [h1, VD_of_not_mem m d _ (by decide), h2, VB_of_ne m d _ (by decide), h3]

end Cert.KernelIdeal.Hand
-- ==== Proof.ReferenceIdeal.Run.lean ====
module

public import proofs.«01_k».proof.Defs
public import proofs.«01_k».proof.Proof.Gen.ReferenceIdeal
public import Idealize.ShloMosaic.Lib.StableHlo.Run
public import Idealize.ShloMosaic.Lib.StableHlo.RunHlo
public import Idealize.ShloMosaic.Lib.Quiescent

@[expose] public section

set_option maxRecDepth 20000

/-! # The reference's run, as one straight line of operations -/

noncomputable section

namespace Cert.ReferenceIdeal.Hand

open Cert.ReferenceIdeal
open Idealize.ShloMosaic Idealize.ShloMosaic.StableHlo Idealize.SL.Sem
open Cert.ReferenceIdeal.Facts₀

variable {F : FTy → Type} [FloatOps F]

/-- From the arguments to the tracked points. -/
def opsP : List (HloOp τ sig (Elt F)) := [
  StableHlo.reshape main_arg0 main_v0 rfl shapeCasts_S8x128x128x3_S8x16384x3,
  StableHlo.reshape main_arg1 main_v1 rfl shapeCasts_S8x128x128_S8x16384,
  StableHlo.unary main_v1 main_v2 ((extractStridedSlice S1x16384 ![0, 0] · slices_S8x16384_S1x16384_0_0) : (⟨S8x16384, .f32⟩ : BufTy).Contents (Elt F) → (⟨S1x16384, .f32⟩ : BufTy).Contents (Elt F)),
  StableHlo.reshape main_v2 main_v3 rfl shapeCasts_S1x16384_S16384,
  StableHlo.unary main_v3 main_values ((fun x => (Host.topK S2048 0 (FloatOps.cmpfTotal .gt) x sliceFits_S16384_S2048).1) : (⟨S16384, .f32⟩ : BufTy).Contents (Elt F) → (⟨S2048, .f32⟩ : BufTy).Contents (Elt F)),
  StableHlo.unary main_v3 main_indices ((fun x => (Host.topK S2048 0 (FloatOps.cmpfTotal .gt) x sliceFits_S16384_S2048).2) : (⟨S16384, .f32⟩ : BufTy).Contents (Elt F) → (⟨S2048, .i32⟩ : BufTy).Contents (Elt F)),
  StableHlo.unary main_v0 main_v4 ((extractStridedSlice S1x16384x3 ![0, 0, 0] · slices_S8x16384x3_S1x16384x3_0_0_0) : (⟨S8x16384x3, .f32⟩ : BufTy).Contents (Elt F) → (⟨S1x16384x3, .f32⟩ : BufTy).Contents (Elt F)),
  StableHlo.reshape main_v4 main_v5 rfl shapeCasts_S1x16384x3_S16384x3,
  StableHlo.nullary main_c (constantI S_ 32 0#32),
  StableHlo.unary main_c main_v6 (broadcastInDim S2048 ![] bcast_S_S2048 : (⟨S_, .i32⟩ : BufTy).Contents (Elt F) → (⟨S2048, .i32⟩ : BufTy).Contents (Elt F)),
  StableHlo.binary main_indices main_v6 main_v7 (cmpi .slt : (⟨S2048, .i32⟩ : BufTy).Contents (Elt F) → (⟨S2048, .i32⟩ : BufTy).Contents (Elt F) → (⟨S2048, .i1⟩ : BufTy).Contents (Elt F)),
  StableHlo.nullary main_c_0 (constantI S_ 32 16384#32),
  StableHlo.unary main_c_0 main_v8 (broadcastInDim S2048 ![] bcast_S_S2048 : (⟨S_, .i32⟩ : BufTy).Contents (Elt F) → (⟨S2048, .i32⟩ : BufTy).Contents (Elt F)),
  StableHlo.binary main_indices main_v8 main_v9 (addi : (⟨S2048, .i32⟩ : BufTy).Contents (Elt F) → (⟨S2048, .i32⟩ : BufTy).Contents (Elt F) → (⟨S2048, .i32⟩ : BufTy).Contents (Elt F)),
  StableHlo.ternary main_v7 main_v9 main_indices main_v10 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_v10 main_v11 (broadcastInDim S2048x1 ![0] bcast_S2048_S2048x1_0 : (⟨S2048, .i32⟩ : BufTy).Contents (Elt F) → (⟨S2048x1, .i32⟩ : BufTy).Contents (Elt F)),
  StableHlo.binary main_v5 main_v11 main_v12 ((fun x i => Host.gather gather_S16384x3_S2048x1_S2048x3_1_0_n_n_0_1_13 x i) : (⟨S16384x3, .f32⟩ : BufTy).Contents (Elt F) → (⟨S2048x1, .i32⟩ : BufTy).Contents (Elt F) → (⟨S2048x3, .f32⟩ : BufTy).Contents (Elt F)) ]

/-- From the tracked points to the distances. -/
def opsD : List (HloOp τ sig (Elt F)) := [
  StableHlo.binary main_v12 main_v12 main_v13 (mulf : (⟨S2048x3, .f32⟩ : BufTy).Contents (Elt F) → (⟨S2048x3, .f32⟩ : BufTy).Contents (Elt F) → (⟨S2048x3, .f32⟩ : BufTy).Contents (Elt F)),
  StableHlo.nullary main_cst (constant S_ .f32 0x00000000#32),
  StableHlo.binary main_v13 main_cst main_v14 ((fun x v => Host.reduceAdd x v reducesTo_S2048x3_S2048_d1 h_S_) : (⟨S2048x3, .f32⟩ : BufTy).Contents (Elt F) → (⟨S_, .f32⟩ : BufTy).Contents (Elt F) → (⟨S2048, .f32⟩ : BufTy).Contents (Elt F)),
  StableHlo.unary main_v0 main_v15 ((extractStridedSlice S7x16384x3 ![1, 0, 0] · slices_S8x16384x3_S7x16384x3_1_0_0) : (⟨S8x16384x3, .f32⟩ : BufTy).Contents (Elt F) → (⟨S7x16384x3, .f32⟩ : BufTy).Contents (Elt F)),
  StableHlo.binary main_v15 main_v15 main_v16 (mulf : (⟨S7x16384x3, .f32⟩ : BufTy).Contents (Elt F) → (⟨S7x16384x3, .f32⟩ : BufTy).Contents (Elt F) → (⟨S7x16384x3, .f32⟩ : BufTy).Contents (Elt F)),
  StableHlo.nullary main_cst_1 (constant S_ .f32 0x00000000#32),
  StableHlo.binary main_v16 main_cst_1 main_v17 ((fun x v => Host.reduceAdd x v reducesTo_S7x16384x3_S7x16384_d2 h_S_) : (⟨S7x16384x3, .f32⟩ : BufTy).Contents (Elt F) → (⟨S_, .f32⟩ : BufTy).Contents (Elt F) → (⟨S7x16384, .f32⟩ : BufTy).Contents (Elt F)),
  StableHlo.unary main_v14 main_v18 (broadcastInDim S1x2048x1 ![1] bcast_S2048_S1x2048x1_1 : (⟨S2048, .f32⟩ : BufTy).Contents (Elt F) → (⟨S1x2048x1, .f32⟩ : BufTy).Contents (Elt F)),
  StableHlo.unary main_v17 main_v19 (broadcastInDim S7x1x16384 ![0, 2] bcast_S7x16384_S7x1x16384_0_2 : (⟨S7x16384, .f32⟩ : BufTy).Contents (Elt F) → (⟨S7x1x16384, .f32⟩ : BufTy).Contents (Elt F)),
  StableHlo.unary main_v18 main_v20 (broadcastInDim S7x2048x16384 ![0, 1, 2] bcast_S1x2048x1_S7x2048x16384_0_1_2 : (⟨S1x2048x1, .f32⟩ : BufTy).Contents (Elt F) → (⟨S7x2048x16384, .f32⟩ : BufTy).Contents (Elt F)),
  StableHlo.unary main_v19 main_v21 (broadcastInDim S7x2048x16384 ![0, 1, 2] bcast_S7x1x16384_S7x2048x16384_0_1_2 : (⟨S7x1x16384, .f32⟩ : BufTy).Contents (Elt F) → (⟨S7x2048x16384, .f32⟩ : BufTy).Contents (Elt F)),
  StableHlo.binary main_v20 main_v21 main_v22 (addf : (⟨S7x2048x16384, .f32⟩ : BufTy).Contents (Elt F) → (⟨S7x2048x16384, .f32⟩ : BufTy).Contents (Elt F) → (⟨S7x2048x16384, .f32⟩ : BufTy).Contents (Elt F)),
  StableHlo.binary main_v15 main_v12 main_v23 ((fun l r => Host.dotGeneral dot_S7x16384x3_S2048x3_S7x16384x2048_2_1_01_0_n_n none l r) : (⟨S7x16384x3, .f32⟩ : BufTy).Contents (Elt F) → (⟨S2048x3, .f32⟩ : BufTy).Contents (Elt F) → (⟨S7x16384x2048, .f32⟩ : BufTy).Contents (Elt F)),
  StableHlo.unary main_v23 main_v24 ((transpose S7x2048x16384 [0, 2, 1] · transposes_S7x16384x2048_S7x2048x16384_0_2_1) : (⟨S7x16384x2048, .f32⟩ : BufTy).Contents (Elt F) → (⟨S7x2048x16384, .f32⟩ : BufTy).Contents (Elt F)),
  StableHlo.nullary main_cst_2 (constant S_ .f32 0x40000000#32),
  StableHlo.unary main_cst_2 main_v25 (broadcastInDim S7x2048x16384 ![] bcast_S_S7x2048x16384 : (⟨S_, .f32⟩ : BufTy).Contents (Elt F) → (⟨S7x2048x16384, .f32⟩ : BufTy).Contents (Elt F)),
  StableHlo.binary main_v25 main_v24 main_v26 (mulf : (⟨S7x2048x16384, .f32⟩ : BufTy).Contents (Elt F) → (⟨S7x2048x16384, .f32⟩ : BufTy).Contents (Elt F) → (⟨S7x2048x16384, .f32⟩ : BufTy).Contents (Elt F)),
  StableHlo.binary main_v22 main_v26 main_v27 (subf : (⟨S7x2048x16384, .f32⟩ : BufTy).Contents (Elt F) → (⟨S7x2048x16384, .f32⟩ : BufTy).Contents (Elt F) → (⟨S7x2048x16384, .f32⟩ : BufTy).Contents (Elt F)) ]

/-- The nearest place. -/
def opsQ : List (HloOp τ sig (Elt F)) := [
  StableHlo.nullary main_call0_v0 (iotaInDim S7x2048x16384 32 2),
  StableHlo.nullary main_call0_cst (constant S_ .f32 0x7F800000#32),
  StableHlo.nullary main_call0_c (constantI S_ 32 0#32),
  StableHlo.quaternary main_v27 main_call0_v0 main_call0_cst main_call0_c main_call0_v1_0 ((fun x y u v j => (Host.argReduce reducer_argmin_f32_i32 x y u v reducesTo_S7x2048x16384_S7x2048_d2 h_S_ j).1) : (⟨S7x2048x16384, .f32⟩ : BufTy).Contents (Elt F) → (⟨S7x2048x16384, .i32⟩ : BufTy).Contents (Elt F) → (⟨S_, .f32⟩ : BufTy).Contents (Elt F) → (⟨S_, .i32⟩ : BufTy).Contents (Elt F) → (⟨S7x2048, .f32⟩ : BufTy).Contents (Elt F)),
  StableHlo.quaternary main_v27 main_call0_v0 main_call0_cst main_call0_c main_v28 ((fun x y u v j => (Host.argReduce reducer_argmin_f32_i32 x y u v reducesTo_S7x2048x16384_S7x2048_d2 h_S_ j).2) : (⟨S7x2048x16384, .f32⟩ : BufTy).Contents (Elt F) → (⟨S7x2048x16384, .i32⟩ : BufTy).Contents (Elt F) → (⟨S_, .f32⟩ : BufTy).Contents (Elt F) → (⟨S_, .i32⟩ : BufTy).Contents (Elt F) → (⟨S7x2048, .i32⟩ : BufTy).Contents (Elt F)) ]

/-- All places in one table. -/
def opsR : List (HloOp τ sig (Elt F)) := [
  StableHlo.unary main_indices main_v29 (broadcastInDim S1x2048 ![1] bcast_S2048_S1x2048_1 : (⟨S2048, .i32⟩ : BufTy).Contents (Elt F) → (⟨S1x2048, .i32⟩ : BufTy).Contents (Elt F)),
  StableHlo.binary main_v29 main_v28 main_v30 ((fun a b => concatenate S8x2048 0 [⟨S1x2048, a⟩, ⟨S7x2048, b⟩] concatenates_S1x2048_S7x2048_S8x2048_d0) : (⟨S1x2048, .i32⟩ : BufTy).Contents (Elt F) → (⟨S7x2048, .i32⟩ : BufTy).Contents (Elt F) → (⟨S8x2048, .i32⟩ : BufTy).Contents (Elt F)) ]

/-- The rows. -/
def opsS : List (HloOp τ sig (Elt F)) := [
  StableHlo.nullary main_c_3 (constantI S_ 32 128#32),
  StableHlo.unary main_c_3 main_call1_v0 (id : (⟨S_, .i32⟩ : BufTy).Contents (Elt F) → (⟨S_, .i32⟩ : BufTy).Contents (Elt F)),
  StableHlo.unary main_call1_v0 main_call1_v1 (broadcastInDim S8x2048 ![] bcast_S_S8x2048 : (⟨S_, .i32⟩ : BufTy).Contents (Elt F) → (⟨S8x2048, .i32⟩ : BufTy).Contents (Elt F)),
  StableHlo.binary main_v30 main_call1_v1 main_call1_v2 (Host.divsi : (⟨S8x2048, .i32⟩ : BufTy).Contents (Elt F) → (⟨S8x2048, .i32⟩ : BufTy).Contents (Elt F) → (⟨S8x2048, .i32⟩ : BufTy).Contents (Elt F)),
  StableHlo.unary main_v30 main_call1_v3 (signi : (⟨S8x2048, .i32⟩ : BufTy).Contents (Elt F) → (⟨S8x2048, .i32⟩ : BufTy).Contents (Elt F)),
  StableHlo.unary main_call1_v0 main_call1_v4 (signi : (⟨S_, .i32⟩ : BufTy).Contents (Elt F) → (⟨S_, .i32⟩ : BufTy).Contents (Elt F)),
  StableHlo.unary main_call1_v4 main_call1_v5 (broadcastInDim S8x2048 ![] bcast_S_S8x2048 : (⟨S_, .i32⟩ : BufTy).Contents (Elt F) → (⟨S8x2048, .i32⟩ : BufTy).Contents (Elt F)),
  StableHlo.binary main_call1_v3 main_call1_v5 main_call1_v6 (cmpi .ne : (⟨S8x2048, .i32⟩ : BufTy).Contents (Elt F) → (⟨S8x2048, .i32⟩ : BufTy).Contents (Elt F) → (⟨S8x2048, .i1⟩ : BufTy).Contents (Elt F)),
  StableHlo.unary main_call1_v0 main_call1_v7 (broadcastInDim S8x2048 ![] bcast_S_S8x2048 : (⟨S_, .i32⟩ : BufTy).Contents (Elt F) → (⟨S8x2048, .i32⟩ : BufTy).Contents (Elt F)),
  StableHlo.binary main_v30 main_call1_v7 main_call1_v8 (Host.remsi : (⟨S8x2048, .i32⟩ : BufTy).Contents (Elt F) → (⟨S8x2048, .i32⟩ : BufTy).Contents (Elt F) → (⟨S8x2048, .i32⟩ : BufTy).Contents (Elt F)),
  StableHlo.nullary main_call1_c (constantI S_ 32 0#32),
  StableHlo.unary main_call1_c main_call1_v9 (broadcastInDim S8x2048 ![] bcast_S_S8x2048 : (⟨S_, .i32⟩ : BufTy).Contents (Elt F) → (⟨S8x2048, .i32⟩ : BufTy).Contents (Elt F)),
  StableHlo.binary main_call1_v8 main_call1_v9 main_call1_v10 (cmpi .ne : (⟨S8x2048, .i32⟩ : BufTy).Contents (Elt F) → (⟨S8x2048, .i32⟩ : BufTy).Contents (Elt F) → (⟨S8x2048, .i1⟩ : BufTy).Contents (Elt F)),
  StableHlo.binary main_call1_v6 main_call1_v10 main_call1_v11 (andi : (⟨S8x2048, .i1⟩ : BufTy).Contents (Elt F) → (⟨S8x2048, .i1⟩ : BufTy).Contents (Elt F) → (⟨S8x2048, .i1⟩ : BufTy).Contents (Elt F)),
  StableHlo.nullary main_call1_c_0 (constantI S_ 32 1#32),
  StableHlo.unary main_call1_c_0 main_call1_v12 (broadcastInDim S8x2048 ![] bcast_S_S8x2048 : (⟨S_, .i32⟩ : BufTy).Contents (Elt F) → (⟨S8x2048, .i32⟩ : BufTy).Contents (Elt F)),
  StableHlo.binary main_call1_v2 main_call1_v12 main_call1_v13 (subi : (⟨S8x2048, .i32⟩ : BufTy).Contents (Elt F) → (⟨S8x2048, .i32⟩ : BufTy).Contents (Elt F) → (⟨S8x2048, .i32⟩ : BufTy).Contents (Elt F)),
  StableHlo.ternary main_call1_v11 main_call1_v13 main_call1_v2 main_v31 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)) ]

/-- The columns. -/
def opsT : List (HloOp τ sig (Elt F)) := [
  StableHlo.nullary main_c_4 (constantI S_ 32 128#32),
  StableHlo.unary main_c_4 main_call2_v0 (id : (⟨S_, .i32⟩ : BufTy).Contents (Elt F) → (⟨S_, .i32⟩ : BufTy).Contents (Elt F)),
  StableHlo.nullary main_call2_c (constantI S_ 32 0#32),
  StableHlo.binary main_call2_v0 main_call2_c main_call2_v1 (cmpi .eq : (⟨S_, .i32⟩ : BufTy).Contents (Elt F) → (⟨S_, .i32⟩ : BufTy).Contents (Elt F) → (⟨S_, .i1⟩ : BufTy).Contents (Elt F)),
  StableHlo.nullary main_call2_c_0 (constantI S_ 32 1#32),
  StableHlo.ternary main_call2_v1 main_call2_c_0 main_call2_v0 main_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unary main_call2_v2 main_call2_v3 (broadcastInDim S8x2048 ![] bcast_S_S8x2048 : (⟨S_, .i32⟩ : BufTy).Contents (Elt F) → (⟨S8x2048, .i32⟩ : BufTy).Contents (Elt F)),
  StableHlo.binary main_v30 main_call2_v3 main_call2_v4 (Host.remsi : (⟨S8x2048, .i32⟩ : BufTy).Contents (Elt F) → (⟨S8x2048, .i32⟩ : BufTy).Contents (Elt F) → (⟨S8x2048, .i32⟩ : BufTy).Contents (Elt F)),
  StableHlo.nullary main_call2_c_1 (constantI S_ 32 0#32),
  StableHlo.unary main_call2_c_1 main_call2_v5 (broadcastInDim S8x2048 ![] bcast_S_S8x2048 : (⟨S_, .i32⟩ : BufTy).Contents (Elt F) → (⟨S8x2048, .i32⟩ : BufTy).Contents (Elt F)),
  StableHlo.binary main_call2_v4 main_call2_v5 main_call2_v6 (cmpi .ne : (⟨S8x2048, .i32⟩ : BufTy).Contents (Elt F) → (⟨S8x2048, .i32⟩ : BufTy).Contents (Elt F) → (⟨S8x2048, .i1⟩ : BufTy).Contents (Elt F)),
  StableHlo.nullary main_call2_c_2 (constantI S_ 32 0#32),
  StableHlo.unary main_call2_c_2 main_call2_v7 (broadcastInDim S8x2048 ![] bcast_S_S8x2048 : (⟨S_, .i32⟩ : BufTy).Contents (Elt F) → (⟨S8x2048, .i32⟩ : BufTy).Contents (Elt F)),
  StableHlo.binary main_call2_v4 main_call2_v7 main_call2_v8 (cmpi .slt : (⟨S8x2048, .i32⟩ : BufTy).Contents (Elt F) → (⟨S8x2048, .i32⟩ : BufTy).Contents (Elt F) → (⟨S8x2048, .i1⟩ : BufTy).Contents (Elt F)),
  StableHlo.nullary main_call2_c_3 (constantI S_ 32 0#32),
  StableHlo.binary main_call2_v2 main_call2_c_3 main_call2_v9 (cmpi .slt : (⟨S_, .i32⟩ : BufTy).Contents (Elt F) → (⟨S_, .i32⟩ : BufTy).Contents (Elt F) → (⟨S_, .i1⟩ : BufTy).Contents (Elt F)),
  StableHlo.unary main_call2_v9 main_call2_v10 (broadcastInDim S8x2048 ![] bcast_S_S8x2048 : (⟨S_, .i1⟩ : BufTy).Contents (Elt F) → (⟨S8x2048, .i1⟩ : BufTy).Contents (Elt F)),
  StableHlo.binary main_call2_v8 main_call2_v10 main_call2_v11 (cmpi .ne : (⟨S8x2048, .i1⟩ : BufTy).Contents (Elt F) → (⟨S8x2048, .i1⟩ : BufTy).Contents (Elt F) → (⟨S8x2048, .i1⟩ : BufTy).Contents (Elt F)),
  StableHlo.binary main_call2_v11 main_call2_v6 main_call2_v12 (andi : (⟨S8x2048, .i1⟩ : BufTy).Contents (Elt F) → (⟨S8x2048, .i1⟩ : BufTy).Contents (Elt F) → (⟨S8x2048, .i1⟩ : BufTy).Contents (Elt F)),
  StableHlo.unary main_call2_v2 main_call2_v13 (broadcastInDim S8x2048 ![] bcast_S_S8x2048 : (⟨S_, .i32⟩ : BufTy).Contents (Elt F) → (⟨S8x2048, .i32⟩ : BufTy).Contents (Elt F)),
  StableHlo.binary main_call2_v4 main_call2_v13 main_call2_v14 (addi : (⟨S8x2048, .i32⟩ : BufTy).Contents (Elt F) → (⟨S8x2048, .i32⟩ : BufTy).Contents (Elt F) → (⟨S8x2048, .i32⟩ : BufTy).Contents (Elt F)),
  StableHlo.ternary main_call2_v12 main_call2_v14 main_call2_v4 main_v32 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)) ]

/-- The results put together. -/
def opsU : List (HloOp τ sig (Elt F)) := [
  StableHlo.unary main_v31 main_v33 (broadcastInDim S8x2048x1 ![0, 1] bcast_S8x2048_S8x2048x1_0_1 : (⟨S8x2048, .i32⟩ : BufTy).Contents (Elt F) → (⟨S8x2048x1, .i32⟩ : BufTy).Contents (Elt F)),
  StableHlo.unary main_v32 main_v34 (broadcastInDim S8x2048x1 ![0, 1] bcast_S8x2048_S8x2048x1_0_1 : (⟨S8x2048, .i32⟩ : BufTy).Contents (Elt F) → (⟨S8x2048x1, .i32⟩ : BufTy).Contents (Elt F)),
  StableHlo.binary main_v33 main_v34 main_v35 ((fun a b => concatenate S8x2048x2 2 [⟨S8x2048x1, a⟩, ⟨S8x2048x1, b⟩] concatenates_S8x2048x1_S8x2048x1_S8x2048x2_d2) : (⟨S8x2048x1, .i32⟩ : BufTy).Contents (Elt F) → (⟨S8x2048x1, .i32⟩ : BufTy).Contents (Elt F) → (⟨S8x2048x2, .i32⟩ : BufTy).Contents (Elt F)),
  StableHlo.nullary main_c_5 (constantI S_ 32 0#32),
  StableHlo.unary main_c_5 main_v36 (broadcastInDim S8x2048 ![] bcast_S_S8x2048 : (⟨S_, .i32⟩ : BufTy).Contents (Elt F) → (⟨S8x2048, .i32⟩ : BufTy).Contents (Elt F)),
  StableHlo.binary main_v30 main_v36 main_v37 (cmpi .slt : (⟨S8x2048, .i32⟩ : BufTy).Contents (Elt F) → (⟨S8x2048, .i32⟩ : BufTy).Contents (Elt F) → (⟨S8x2048, .i1⟩ : BufTy).Contents (Elt F)),
  StableHlo.nullary main_c_6 (constantI S_ 32 16384#32),
  StableHlo.unary main_c_6 main_v38 (broadcastInDim S8x2048 ![] bcast_S_S8x2048 : (⟨S_, .i32⟩ : BufTy).Contents (Elt F) → (⟨S8x2048, .i32⟩ : BufTy).Contents (Elt F)),
  StableHlo.binary main_v30 main_v38 main_v39 (addi : (⟨S8x2048, .i32⟩ : BufTy).Contents (Elt F) → (⟨S8x2048, .i32⟩ : BufTy).Contents (Elt F) → (⟨S8x2048, .i32⟩ : BufTy).Contents (Elt F)),
  StableHlo.ternary main_v37 main_v39 main_v30 main_v40 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
  StableHlo.unary main_v40 main_v41 (broadcastInDim S8x2048x1 ![0, 1] bcast_S8x2048_S8x2048x1_0_1 : (⟨S8x2048, .i32⟩ : BufTy).Contents (Elt F) → (⟨S8x2048x1, .i32⟩ : BufTy).Contents (Elt F)),
  StableHlo.binary main_v0 main_v41 main_v42 ((fun x i => Host.gather gather_S8x16384x3_S8x2048x1_S8x2048x3_2_1_0_0_1_2_113 x i) : (⟨S8x16384x3, .f32⟩ : BufTy).Contents (Elt F) → (⟨S8x2048x1, .i32⟩ : BufTy).Contents (Elt F) → (⟨S8x2048x3, .f32⟩ : BufTy).Contents (Elt F)),
  StableHlo.nullary main_c_7 (constantI S_ 32 0#32),
  StableHlo.unary main_c_7 main_v43 (broadcastInDim S8x2048 ![] bcast_S_S8x2048 : (⟨S_, .i32⟩ : BufTy).Contents (Elt F) → (⟨S8x2048, .i32⟩ : BufTy).Contents (Elt F)),
  StableHlo.binary main_v30 main_v43 main_v44 (cmpi .slt : (⟨S8x2048, .i32⟩ : BufTy).Contents (Elt F) → (⟨S8x2048, .i32⟩ : BufTy).Contents (Elt F) → (⟨S8x2048, .i1⟩ : BufTy).Contents (Elt F)),
  StableHlo.nullary main_c_8 (constantI S_ 32 16384#32),
  StableHlo.unary main_c_8 main_v45 (broadcastInDim S8x2048 ![] bcast_S_S8x2048 : (⟨S_, .i32⟩ : BufTy).Contents (Elt F) → (⟨S8x2048, .i32⟩ : BufTy).Contents (Elt F)),
  StableHlo.binary main_v30 main_v45 main_v46 (addi : (⟨S8x2048, .i32⟩ : BufTy).Contents (Elt F) → (⟨S8x2048, .i32⟩ : BufTy).Contents (Elt F) → (⟨S8x2048, .i32⟩ : BufTy).Contents (Elt F)),
  StableHlo.ternary main_v44 main_v46 main_v30 main_v47 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
  StableHlo.unary main_v47 main_v48 (broadcastInDim S8x2048x1 ![0, 1] bcast_S8x2048_S8x2048x1_0_1 : (⟨S8x2048, .i32⟩ : BufTy).Contents (Elt F) → (⟨S8x2048x1, .i32⟩ : BufTy).Contents (Elt F)),
  StableHlo.binary main_v1 main_v48 main_v49 ((fun x i => Host.gather gather_S8x16384_S8x2048x1_S8x2048_n_1_0_0_1_2_11 x i) : (⟨S8x16384, .f32⟩ : BufTy).Contents (Elt F) → (⟨S8x2048x1, .i32⟩ : BufTy).Contents (Elt F) → (⟨S8x2048, .f32⟩ : BufTy).Contents (Elt F)) ]

/-- All of them. -/
def ops : List (HloOp τ sig (Elt F)) := opsP ++ opsD ++ opsQ ++ opsR ++ opsS ++ opsT ++ opsU

set_option maxHeartbeats 4000000 in
/-- The program is that straight line. -/
theorem main_eq (d : Dev nD) : main (F := F) d = StableHlo.seq ops := rfl

/-- `opsP` names arrays of the device only, -/
theorem opsP_sub : (opsP (F := F)).Forall fun op => op.bufs ⊆ StableHlo.tcRefs τ sig := by
  unfold opsP
  exact ⟨StableHlo.reshape_bufs_sub .., StableHlo.reshape_bufs_sub .., StableHlo.unary_bufs_sub .., StableHlo.reshape_bufs_sub .., StableHlo.unary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- and leaves no result open. -/
theorem opsP_fresh : ∀ op ∈ opsP (F := F), op.fresh = ∅ := by
  intro op h; unfold opsP at h; fin_cases h <;> rfl

/-- `opsD` names arrays of the device only, -/
theorem opsD_sub : (opsD (F := F)).Forall fun op => op.bufs ⊆ StableHlo.tcRefs τ sig := by
  unfold opsD
  exact ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub ..⟩
/-- and leaves no result open. -/
theorem opsD_fresh : ∀ op ∈ opsD (F := F), op.fresh = ∅ := by
  intro op h; unfold opsD at h; fin_cases h <;> rfl

/-- `opsQ` names arrays of the device only, -/
theorem opsQ_sub : (opsQ (F := F)).Forall fun op => op.bufs ⊆ StableHlo.tcRefs τ sig := by
  unfold opsQ
  exact ⟨StableHlo.nullary_bufs_sub .., StableHlo.nullary_bufs_sub .., StableHlo.nullary_bufs_sub .., StableHlo.quaternary_bufs_sub .., StableHlo.quaternary_bufs_sub ..⟩
/-- and leaves no result open. -/
theorem opsQ_fresh : ∀ op ∈ opsQ (F := F), op.fresh = ∅ := by
  intro op h; unfold opsQ at h; fin_cases h <;> rfl

/-- `opsR` names arrays of the device only, -/
theorem opsR_sub : (opsR (F := F)).Forall fun op => op.bufs ⊆ StableHlo.tcRefs τ sig := by
  unfold opsR
  exact ⟨StableHlo.unary_bufs_sub .., StableHlo.binary_bufs_sub ..⟩
/-- and leaves no result open. -/
theorem opsR_fresh : ∀ op ∈ opsR (F := F), op.fresh = ∅ := by
  intro op h; unfold opsR at h; fin_cases h <;> rfl

/-- `opsS` names arrays of the device only, -/
theorem opsS_sub : (opsS (F := F)).Forall fun op => op.bufs ⊆ StableHlo.tcRefs τ sig := by
  unfold opsS
  exact ⟨StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- and leaves no result open. -/
theorem opsS_fresh : ∀ op ∈ opsS (F := F), op.fresh = ∅ := by
  intro op h; unfold opsS at h; fin_cases h <;> rfl

/-- `opsT` names arrays of the device only, -/
theorem opsT_sub : (opsT (F := F)).Forall fun op => op.bufs ⊆ StableHlo.tcRefs τ sig := by
  unfold opsT
  exact ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- and leaves no result open. -/
theorem opsT_fresh : ∀ op ∈ opsT (F := F), op.fresh = ∅ := by
  intro op h; unfold opsT at h; fin_cases h <;> rfl

/-- `opsU` names arrays of the device only, -/
theorem opsU_sub : (opsU (F := F)).Forall fun op => op.bufs ⊆ StableHlo.tcRefs τ sig := by
  unfold opsU
  exact ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- and leaves no result open. -/
theorem opsU_fresh : ∀ op ∈ opsU (F := F), op.fresh = ∅ := by
  intro op h; unfold opsU at h; fin_cases h <;> rfl

/-- Every array of all of them is the device's, -/
theorem ops_sub : (ops (F := F)).Forall fun op => op.bufs ⊆ StableHlo.tcRefs τ sig := by
  unfold ops
  simp only [List.forall_append]
  exact ⟨⟨⟨⟨⟨⟨opsP_sub, opsD_sub⟩, opsQ_sub⟩, opsR_sub⟩, opsS_sub⟩, opsT_sub⟩, opsU_sub⟩
/-- and none leaves a result open. -/
theorem ops_fresh : ∀ op ∈ ops (F := F), op.fresh = ∅ := by
  intro op h
  unfold ops at h
  simp only [List.mem_append] at h
  rcases h with (((((h | h) | h) | h) | h) | h) | h
  exacts [opsP_fresh op h, opsD_fresh op h, opsQ_fresh op h, opsR_fresh op h, opsS_fresh op h, opsT_fresh op h, opsU_fresh op h]

variable (m : (ℓ : Loc nD τ sig) → Buf (Elt F) ℓ) (d : Dev nD)

/-- The contents before the distances, -/
def WP : Valuation τ sig (Elt F) := after opsP fun b => m (d, b)
/-- after them, -/
def WD : Valuation τ sig (Elt F) := after opsD (WP m d)
/-- after the search, -/
def WQ : Valuation τ sig (Elt F) := after opsQ (WD m d)
/-- with all places in one table, -/
def WR : Valuation τ sig (Elt F) := after opsR (WQ m d)
/-- with their rows, -/
def WS : Valuation τ sig (Elt F) := after opsS (WR m d)
/-- with their columns, -/
def WT : Valuation τ sig (Elt F) := after opsT (WS m d)
/-- and at the end. -/
def WU : Valuation τ sig (Elt F) := after opsU (WT m d)

/-- Two lines in turn are one line. -/
theorem after_app (l₁ l₂ : List (HloOp τ sig (Elt F))) (V : Valuation τ sig (Elt F)) : after (l₁ ++ l₂) V = after l₂ (after l₁ V) := by
  induction l₁ generalizing V with
  | nil => rfl
  | cons op l ih => exact ih _

/-- The whole line's contents are the last part's. -/
theorem after_ops : after ops (launchContents m d) = WU m d := by
  unfold ops WU WT WS WR WQ WD WP
  simp only [after_app]

/-- The reference runs to its end, every array at its contents there and no semaphore signalled. -/
theorem run (ρ : Dev nD → PrngReg) : θ_run (defs (F := F)) (onTc (τ := τ) (main (F := F))) ⟨m, fun _ => 0, ρ⟩
    (fun r => (∀ (d : Dev nD) (b : Ref sig .tc), r.2.mem ((d.tc : Thread nD τ).loc b) = WU m d (Proc.devRef .tc b)) ∧ r.2.sem = fun _ => 0) :=
  θ_run_mono (run_hlo defs main (fun d => main_eq d) (by decide) (by decide) ops_sub ops_fresh m ρ) fun r h =>
    ⟨fun d b => (h d b).trans (congrFun (after_ops m d) _), sem_eq_zero_of_no_sems rfl _⟩

end Cert.ReferenceIdeal.Hand
-- ==== Proof.ReferenceIdeal.Gathers.lean ====
module

public import proofs.«01_k».proof.Proof.ReferenceIdeal.Run
public import proofs.«01_k».proof.Proof.KernelIdeal.Spec
public import Idealize.ShloMosaic.Lib.Pointwise

@[expose] public section

/-! # The reference's reads of every view at its own places -/

noncomputable section

namespace Cert.ReferenceIdeal.Hand

open Cert.ReferenceIdeal
open Idealize.ShloMosaic Idealize.ShloMosaic.StableHlo
open Cert.ReferenceIdeal.Facts₀

variable {α : Type}

/-- A place's word read signed and held inside its row is its number. -/
theorem held (b : Fin 16384) : min (BitVec.ofNat 32 b.val).toInt.toNat (16384 - 1) = b.val := by
  have hb := b.isLt
  rw [Cert.Least.toInt_pos _ (by omega)]
  omega

/-- A view's point at the place its word names. -/
theorem gather3_at (x : S8x16384x3.Idx → α) (w : IVec S8x2048x1 32) (s : Fin 8) (q : Fin 2048) (k : Fin 3) (b : Fin 16384)
    (hb : w (ix3 s q 0) = BitVec.ofNat 32 b.val) :
    Host.gather gather_S8x16384x3_S8x2048x1_S8x2048x3_2_1_0_0_1_2_113 x w (ix3 s q k) = x (ix3 s b k) := by
  unfold Host.gather
  refine congrArg x (funext fun a => Fin.ext ?_)
  match a with
  | ⟨0, _⟩ => exact Nat.zero_add s.val
  | ⟨1, _⟩ =>
    have e : GatherDims.siIdx gather_S8x16384x3_S8x2048x1_S8x2048x3_2_1_0_0_1_2_113 (ix3 s q k) ⟨0, Nat.one_pos⟩ = ix3 s q 0 := by
      funext c
      match c with
      | ⟨0, _⟩ => rfl
      | ⟨1, _⟩ => rfl
      | ⟨2, _⟩ => rfl
    refine Eq.trans ?_ (held b)
    rw [← hb, ← e]
    rfl
  | ⟨2, _⟩ => exact Nat.zero_add k.val

/-- A view's weight at the place its word names. -/
theorem gather2_at (x : S8x16384.Idx → α) (w : IVec S8x2048x1 32) (s : Fin 8) (q : Fin 2048) (b : Fin 16384)
    (hb : w (ix3 s q 0) = BitVec.ofNat 32 b.val) :
    Host.gather gather_S8x16384_S8x2048x1_S8x2048_n_1_0_0_1_2_11 x w (ix2 s q) = x (ix2 s b) := by
  unfold Host.gather
  refine congrArg x (funext fun a => Fin.ext ?_)
  match a with
  | ⟨0, _⟩ => exact Nat.zero_add s.val
  | ⟨1, _⟩ =>
    have e : GatherDims.siIdx gather_S8x16384_S8x2048x1_S8x2048_n_1_0_0_1_2_11 (ix2 s q) ⟨0, Nat.one_pos⟩ = ix3 s q 0 := by
      funext c
      match c with
      | ⟨0, _⟩ => rfl
      | ⟨1, _⟩ => rfl
      | ⟨2, _⟩ => rfl
    refine Eq.trans ?_ (held b)
    rw [← hb, ← e]
    rfl

end Cert.ReferenceIdeal.Hand
-- ==== Proof.ReferenceIdeal.Argmin.lean ====
module

public import proofs.«01_k».proof.Proof.ReferenceIdeal.Run
public import proofs.«01_k».proof.Proof.KernelIdeal.Near
public import Idealize.ShloMosaic.Lib.Pointwise
public import Idealize.ShloMosaic.PureOps.Ideal.Laws

@[expose] public section

/-! # The reference's search for the nearest place -/

noncomputable section

namespace Cert.ReferenceIdeal.Hand

open Cert.ReferenceIdeal Cert.Least
open Idealize.ShloMosaic Idealize.ShloMosaic.StableHlo
open Cert.ReferenceIdeal.Facts₀

/-- The reference's step keeps the better of two pairs. -/
theorem step_eq : reducer_argmin_f32_i32 (F := Ideal) = better := by
  funext a b
  unfold reducer_argmin_f32_i32 better
  simp only [Ideal.cmpf_def, Ideal.cmp, Scalar.select, IntOp.ori, IntOp.andi, IntOp.cmpi, BitVec.slt_eq_decide]
  by_cases h1 : a.1 < b.1 <;> by_cases h2 : a.1 = b.1 <;> by_cases h3 : a.2.toInt < b.2.toInt <;> simp [h1, h2, h3]

/-- Over a row of values it finds the first position of the least. -/
theorem argmin_first (x : S7x2048x16384.Idx → EReal) (v : Fin 7) (q : Fin 2048) :
    First (fun n : Fin 16384 => x (ix3 v q n))
      (Host.argReduce (F := Ideal) (φ := .f32) reducer_argmin_f32_i32 x (iotaInDim S7x2048x16384 32 2) (constant S_ .f32 0x7F800000#32)
        (constantI S_ 32 0#32) reducesTo_S7x2048x16384_S7x2048_d2 h_S_ (ix2 v q)).2 := by
  rw [Ideal.argReduce_eq_reduce2, Host.reduce2_eq_foldl_fiber, step_eq]
  have e : (constant (F := Ideal) S_ .f32 0x7F800000#32 (Shape.Idx.first h_S_), constantI S_ 32 0#32 (Shape.Idx.first h_S_))
      = ((⊤ : EReal), 0#32) := Prod.ext Cert.KernelIdeal.Hand.ofBits_inf rfl
  rw [e]
  refine first_of_pass (by omega) (by omega) _ _ fun p => ?_
  unfold Host.argReduceFiber
  simp only [List.mem_map, List.mem_filter, List.mem_finRange, true_and, decide_eq_true_eq]
  constructor
  · rintro ⟨n, hn, rfl⟩
    generalize S7x2048x16384.rowMajor.symm n = i at hn ⊢
    refine ⟨i 2, ?_⟩
    have h0 := congrArg (fun j => (j 0).val) hn
    have h1 := congrArg (fun j => (j 1).val) hn
    have hi : i = ix3 v q (i 2) := by
      funext a
      apply Fin.ext
      match a with
      | ⟨0, _⟩ => exact (Shape.ReducesTo.drop_apply_val_of_eq reducesTo_S7x2048x16384_S7x2048_d2 i 0 0).symm.trans h0
      | ⟨1, _⟩ => exact (Shape.ReducesTo.drop_apply_val_of_eq reducesTo_S7x2048x16384_S7x2048_d2 i 1 1).symm.trans h1
      | ⟨2, _⟩ => rfl
    exact Prod.ext (congrArg x hi) rfl
  · rintro ⟨k, rfl⟩
    refine ⟨S7x2048x16384.rowMajor (ix3 v q k), ?_, ?_⟩
    · rw [Equiv.symm_apply_apply]
      funext a
      apply Fin.ext
      match a with
      | ⟨0, _⟩ => exact Shape.ReducesTo.drop_apply_val_of_eq reducesTo_S7x2048x16384_S7x2048_d2 (ix3 v q k) 0 0
      | ⟨1, _⟩ => exact Shape.ReducesTo.drop_apply_val_of_eq reducesTo_S7x2048x16384_S7x2048_d2 (ix3 v q k) 1 1
    · rw [Equiv.symm_apply_apply]
      rfl

end Cert.ReferenceIdeal.Hand
-- ==== Proof.ReferenceIdeal.Values.lean ====
module

public import proofs.«01_k».proof.Proof.ReferenceIdeal.Gathers
public import proofs.«01_k».proof.Proof.ReferenceIdeal.Argmin
public import Idealize.ShloMosaic.Lib.StableHlo.ReadAt
public import Idealize.ShloMosaic.Lib.Routing.Ops
public import Idealize.ShloMosaic.Lib.Routing.OpsPair
public import Idealize.ShloMosaic.Lib.Routing.Words
public import Idealize.ShloMosaic.Lib.WordCmp
public import Idealize.ShloMosaic.Lib.Pointwise

@[expose] public section

set_option maxRecDepth 20000

/-! # What the reference leaves, over the reals -/

noncomputable section

namespace Cert.ReferenceIdeal.Hand

open Cert.ReferenceIdeal
open Idealize.ShloMosaic Idealize.ShloMosaic.StableHlo
open Cert.ReferenceIdeal.Facts₀
open Cert.Spec Cert.Least
open Cert.KernelIdeal.Hand (dist)

variable (m : (ℓ : Loc nD τ sig) → Buf (Elt Ideal) ℓ) (d : Dev nD)

/-- The points the reference starts from, -/
abbrev pts : SX.Idx → EReal := m (d, Proc.devRef .tc main_arg0)
/-- and their weights. -/
abbrev cnf : SC.Idx → EReal := m (d, Proc.devRef .tc main_arg1)

/-! ## The tracked points -/

/-- Every view's points in one row, -/
theorem rows_eq (s : Fin 8) (n : Fin 16384) (k : Fin 3) :
    (WP m d (Proc.devRef .tc main_v0) : S8x16384x3.Idx → EReal) (ix3 s n k) = point (pts m d) s n k := by
  unfold WP opsP point
  after_reads_at

/-- every view's weights, -/
theorem weights_eq (s : Fin 8) (n : Fin 16384) :
    (WP m d (Proc.devRef .tc main_v1) : S8x16384.Idx → EReal) (ix2 s n) = weight (cnf m d) s n := by
  unfold WP opsP weight
  after_reads_at

/-- the first view's points, -/
theorem first_eq (n : Fin 16384) (k : Fin 3) :
    (WP m d (Proc.devRef .tc main_v5) : S16384x3.Idx → EReal) (ix2 n k) = point (pts m d) 0 n k := by
  unfold WP opsP point
  after_reads_at

/-- its weights, -/
theorem row_eq (n : Fin 16384) : (WP m d (Proc.devRef .tc main_v3) : S16384.Idx → EReal) (ix1 n) = weight (cnf m d) 0 n := by
  unfold WP opsP weight
  after_reads_at

/-- and the tracked places. -/
theorem indices_eq : (WP m d (Proc.devRef .tc main_indices) : S2048.Idx → BitVec 32) = tracked (cnf m d) := by
  have h : (WP m d (Proc.devRef .tc main_indices) : S2048.Idx → BitVec 32)
      = tops (WP m d (Proc.devRef .tc main_v3) : S16384.Idx → EReal) := by
    unfold WP opsP tops
    after_reads_simp
  rw [h]
  unfold tracked
  congr 1
  funext j
  idx_vars j
  exact row_eq m d _

/-- A word below the row's length is the word of its place. -/
theorem word_place (w : BitVec 32) (hw : w.toNat < 16384) : w = BitVec.ofNat 32 (place w).val := by
  refine BitVec.eq_of_toNat_eq ?_
  unfold place
  rw [BitVec.toNat_ofNat]
  dsimp only
  omega

/-- The table of places the first gather reads holds the tracked places. -/
theorem starts_eq (q : Fin 2048) :
    (WP m d (Proc.devRef .tc main_v11) : S2048x1.Idx → BitVec 32) (ix2 q 0) = tracked (cnf m d) (ix1 q) := by
  have h : (WP m d (Proc.devRef .tc main_v11) : S2048x1.Idx → BitVec 32) (ix2 q 0)
      = Scalar.select (IntOp.cmpi .slt ((WP m d (Proc.devRef .tc main_indices) : S2048.Idx → BitVec 32) (ix1 q)) 0#32)
          (IntOp.addi ((WP m d (Proc.devRef .tc main_indices) : S2048.Idx → BitVec 32) (ix1 q)) 16384#32)
          ((WP m d (Proc.devRef .tc main_indices) : S2048.Idx → BitVec 32) (ix1 q)) := by
    unfold WP opsP
    after_reads_at
  rw [h, indices_eq, Routing.wrap_of_lt]
  exact (tops_lt _ _).trans (by norm_num)

/-- The points searched for are the tracked points. -/
theorem queries_eq (q : Fin 2048) (k : Fin 3) :
    (WP m d (Proc.devRef .tc main_v12) : S2048x3.Idx → EReal) (ix2 q k) = query (pts m d) (cnf m d) q k := by
  have h : (WP m d (Proc.devRef .tc main_v12) : S2048x3.Idx → EReal)
      = Host.gather gather_S16384x3_S2048x1_S2048x3_1_0_n_n_0_1_13 (WP m d (Proc.devRef .tc main_v5) : S16384x3.Idx → EReal)
          (WP m d (Proc.devRef .tc main_v11) : S2048x1.Idx → BitVec 32) := by
    unfold WP opsP
    after_reads_simp
  rw [h, ix2_eq_valueIdx]
  refine (Routing.gather_row (nb := 16384) (B := 3) (n := 2048) _ rfl rfl rfl rfl rfl _ _ q k (place (tracked (cnf m d) (ix1 q))) ?_ (by norm_num)).trans ?_
  · rw [← ix2_eq_valueIdx]
    exact (starts_eq m d q).trans (word_place _ (tops_lt _ _))
  · rw [← ix2_eq_valueIdx]
    exact first_eq m d _ k

/-! ## The distances -/

/-- A distance's product may be taken the other way round. -/
theorem dist_swap (q k : Fin 3 → EReal) : ((∑ a, q a * q a) + ∑ a, k a * k a) - Ideal.ofBits .f32 0x40000000#32 * ∑ a, k a * q a
    = Cert.KernelIdeal.Hand.dist q k := by
  unfold Cert.KernelIdeal.Hand.dist
  have e : ∑ a, k a * q a = ∑ a, q a * k a := Finset.sum_congr rfl fun a _ => EReal.mul_comm _ _
  rw [e]

/-- An element of the table of distances, from the points it is computed of; -/
theorem table_eq (v : Fin 7) (q : Fin 2048) (n : Fin 16384) {Q : Fin 3 → EReal} {K : Fin 3 → EReal}
    (hQ : ∀ k, (WP m d (Proc.devRef .tc main_v12) : S2048x3.Idx → EReal) (ix2 q k) = Q k)
    (hK : ∀ k, (WP m d (Proc.devRef .tc main_v0) : S8x16384x3.Idx → EReal) (ix3 ⟨1 + v.val, by omega⟩ n k) = K k) :
    (WD m d (Proc.devRef .tc main_v27) : S7x2048x16384.Idx → EReal) (ix3 v q n)
      = ((∑ a, Q a * Q a) + ∑ a, K a * K a) - Ideal.ofBits .f32 0x40000000#32 * ∑ a, K a * Q a := by
  obtain rfl : _ = Q := funext hQ
  obtain rfl : _ = K := funext hK
  unfold WD opsD
  after_reads_at

/-- they are those from every tracked point to every point of the other views. -/
theorem dist_eq (v : Fin 7) (q : Fin 2048) (n : Fin 16384) :
    (WD m d (Proc.devRef .tc main_v27) : S7x2048x16384.Idx → EReal) (ix3 v q n)
      = dist (query (pts m d) (cnf m d) q) (point (pts m d) v.succ n) := by
  refine (table_eq m d v q n (queries_eq m d q) fun k => ?_).trans (dist_swap _ _)
  rw [rows_eq, show v.succ = ⟨1 + v.val, by omega⟩ from Fin.ext (by rw [Fin.val_succ, Nat.add_comm])]

/-! ## The places -/

/-- The places of every view, in one table. -/
def found (s : Fin 8) (q : Fin 2048) : BitVec 32 := (WR m d (Proc.devRef .tc main_v30) : S8x2048.Idx → BitVec 32) (ix2 s q)

/-- The tracked places are still there when the table is put together. -/
theorem kept_indices : (WQ m d (Proc.devRef .tc main_indices) : S2048.Idx → BitVec 32) = tracked (cnf m d) := by
  have h1 : WQ m d (Proc.devRef .tc main_indices) = WD m d (Proc.devRef .tc main_indices) := by unfold WQ opsQ; after_reads_simp
  have h2 : WD m d (Proc.devRef .tc main_indices) = WP m d (Proc.devRef .tc main_indices) := by unfold WD opsD; after_reads_simp
  rw [h1, h2, indices_eq]

/-- The table's first row is the tracked places, -/
theorem found_zero (q : Fin 2048) : found m d 0 q = tracked (cnf m d) (ix1 q) := by
  have h : found m d 0 q = (WQ m d (Proc.devRef .tc main_indices) : S2048.Idx → BitVec 32) (ix1 q) := by
    unfold found WR opsR
    after_reads_at
  rw [h, kept_indices]

/-- the others what the search finds. -/
theorem found_succ (v : Fin 7) (q : Fin 2048) :
    found m d v.succ q = (WQ m d (Proc.devRef .tc main_v28) : S7x2048.Idx → BitVec 32) (ix2 v q) := by
  unfold found WR opsR
  after_reads_at
  rw [dif_neg (by rw [Fin.val_succ]; omega), show (⟨v.succ.val - 1, by rw [Fin.val_succ]; omega⟩ : Fin 7) = v from Fin.ext (by show v.succ.val - 1 = v.val; rw [Fin.val_succ]; exact Nat.add_sub_cancel _ _)]

/-- The search finds the first nearest place. -/
theorem searched_first (v : Fin 7) (q : Fin 2048) :
    First (fun n => dist (query (pts m d) (cnf m d) q) (point (pts m d) v.succ n)) ((WQ m d (Proc.devRef .tc main_v28) : S7x2048.Idx → BitVec 32) (ix2 v q)) := by
  have h : (WQ m d (Proc.devRef .tc main_v28) : S7x2048.Idx → BitVec 32)
      = fun j => (Host.argReduce (F := Ideal) (φ := .f32) reducer_argmin_f32_i32 (WD m d (Proc.devRef .tc main_v27) : S7x2048x16384.Idx → EReal)
          (iotaInDim S7x2048x16384 32 2) (constant S_ .f32 0x7F800000#32) (constantI S_ 32 0#32) reducesTo_S7x2048x16384_S7x2048_d2 h_S_ j).2 := by
    unfold WQ opsQ
    after_reads_simp
  have e : (fun n : Fin 16384 => (WD m d (Proc.devRef .tc main_v27) : S7x2048x16384.Idx → EReal) (ix3 v q n))
      = fun n => dist (query (pts m d) (cnf m d) q) (point (pts m d) v.succ n) := funext fun n => dist_eq m d v q n
  rw [h, ← e]
  exact argmin_first _ v q

/-- The table holds the places sought. -/
theorem found_places : Places (pts m d) (cnf m d) (found m d) :=
  ⟨found_zero m d, fun v q => by rw [found_succ]; exact searched_first m d v q⟩

/-! ## Their rows and columns -/

/-- The row of a place is its number over the width, -/
theorem rows_at (s : Fin 8) (q : Fin 2048) : (WS m d (Proc.devRef .tc main_v31) : S8x2048.Idx → BitVec 32) (ix2 s q)
    = BitVec.ofNat 32 ((found m d s q).toNat / 128) := by
  have h : (WS m d (Proc.devRef .tc main_v31) : S8x2048.Idx → BitVec 32)
      = Routing.pyDiv bcast_S_S8x2048 (WR m d (Proc.devRef .tc main_v30) : S8x2048.Idx → BitVec 32) (constantI S_ 32 128#32) := by
    unfold WS opsS Routing.pyDiv
    after_reads_simp
    rfl
  have hl := (found_places m d).lt s q
  rw [h, ix2_eq_valueIdx]
  refine Routing.pyDiv_ap _ _ _ _ ?_ rfl (by omega) (by omega) (by omega)
  rw [← ix2_eq_valueIdx]
  exact BitVec.eq_of_toNat_eq (by rw [BitVec.toNat_ofNat]; unfold found; omega)

/-- the column the remainder. -/
theorem columns_at (s : Fin 8) (q : Fin 2048) : (WT m d (Proc.devRef .tc main_v32) : S8x2048.Idx → BitVec 32) (ix2 s q)
    = BitVec.ofNat 32 ((found m d s q).toNat % 128) := by
  have h : (WT m d (Proc.devRef .tc main_v32) : S8x2048.Idx → BitVec 32)
      = Routing.pyRem bcast_S_S8x2048 (WS m d (Proc.devRef .tc main_v30) : S8x2048.Idx → BitVec 32) (constantI S_ 32 128#32) := by
    unfold WT opsT Routing.pyRem Routing.divGuard
    after_reads_simp
    rfl
  have h' : (WS m d (Proc.devRef .tc main_v30) : S8x2048.Idx → BitVec 32) = WR m d (Proc.devRef .tc main_v30) := by
    unfold WS opsS; after_reads_simp
  have hl := (found_places m d).lt s q
  rw [h, h', ix2_eq_valueIdx]
  refine Routing.pyRem_ap _ _ _ _ ?_ rfl (by omega) (by omega) (by omega)
  rw [← ix2_eq_valueIdx]
  exact BitVec.eq_of_toNat_eq (by rw [BitVec.toNat_ofNat]; unfold found; omega)

/-! ## The results -/

/-- The places are still there when the results are put together. -/
theorem kept_found (s : Fin 8) (q : Fin 2048) : (WT m d (Proc.devRef .tc main_v30) : S8x2048.Idx → BitVec 32) (ix2 s q) = found m d s q := by
  have h1 : WT m d (Proc.devRef .tc main_v30) = WS m d (Proc.devRef .tc main_v30) := by unfold WT opsT; after_reads_simp
  have h2 : WS m d (Proc.devRef .tc main_v30) = WR m d (Proc.devRef .tc main_v30) := by unfold WS opsS; after_reads_simp
  rw [h1, h2]
  rfl

/-- So are their rows. -/
theorem kept_rows (s : Fin 8) (q : Fin 2048) : (WT m d (Proc.devRef .tc main_v31) : S8x2048.Idx → BitVec 32) (ix2 s q)
    = BitVec.ofNat 32 ((found m d s q).toNat / 128) := by
  have h1 : WT m d (Proc.devRef .tc main_v31) = WS m d (Proc.devRef .tc main_v31) := by unfold WT opsT; after_reads_simp
  rw [h1, rows_at]

/-- The arguments and every view's points and weights are not written after the first part. -/
theorem kept (b : Ref sig .tc) (h : b = main_v0 ∨ b = main_v1 ∨ b = main_arg0 ∨ b = main_arg1) :
    WT m d (Proc.devRef .tc b) = WP m d (Proc.devRef .tc b) := by
  have h1 : WT m d (Proc.devRef .tc b) = WS m d (Proc.devRef .tc b) := by rcases h with rfl | rfl | rfl | rfl <;> · unfold WT opsT; after_reads_simp
  have h2 : WS m d (Proc.devRef .tc b) = WR m d (Proc.devRef .tc b) := by rcases h with rfl | rfl | rfl | rfl <;> · unfold WS opsS; after_reads_simp
  have h3 : WR m d (Proc.devRef .tc b) = WQ m d (Proc.devRef .tc b) := by rcases h with rfl | rfl | rfl | rfl <;> · unfold WR opsR; after_reads_simp
  have h4 : WQ m d (Proc.devRef .tc b) = WD m d (Proc.devRef .tc b) := by rcases h with rfl | rfl | rfl | rfl <;> · unfold WQ opsQ; after_reads_simp
  have h5 : WD m d (Proc.devRef .tc b) = WP m d (Proc.devRef .tc b) := by rcases h with rfl | rfl | rfl | rfl <;> · unfold WD opsD; after_reads_simp
  rw [h1, h2, h3, h4, h5]

/-- Every view's points, -/
theorem kept_points (s : Fin 8) (n : Fin 16384) (k : Fin 3) :
    (WT m d (Proc.devRef .tc main_v0) : S8x16384x3.Idx → EReal) (ix3 s n k) = point (pts m d) s n k := by
  rw [kept m d _ (.inl rfl), rows_eq]

/-- and their weights. -/
theorem kept_weights (s : Fin 8) (n : Fin 16384) :
    (WT m d (Proc.devRef .tc main_v1) : S8x16384.Idx → EReal) (ix2 s n) = weight (cnf m d) s n := by
  rw [kept m d _ (.inr (.inl rfl)), weights_eq]

/-- The arguments are never written. -/
theorem WU_arg0 : WU m d (Proc.devRef .tc main_arg0) = m (d, Proc.devRef .tc main_arg0) := by
  have h1 : WU m d (Proc.devRef .tc main_arg0) = WT m d (Proc.devRef .tc main_arg0) := by unfold WU opsU; after_reads_simp
  have h2 : WP m d (Proc.devRef .tc main_arg0) = m (d, Proc.devRef .tc main_arg0) := by unfold WP opsP; after_reads_simp
  rw [h1, kept m d _ (.inr (.inr (.inl rfl))), h2]

/-- Neither of them. -/
theorem WU_arg1 : WU m d (Proc.devRef .tc main_arg1) = m (d, Proc.devRef .tc main_arg1) := by
  have h1 : WU m d (Proc.devRef .tc main_arg1) = WT m d (Proc.devRef .tc main_arg1) := by unfold WU opsU; after_reads_simp
  have h2 : WP m d (Proc.devRef .tc main_arg1) = m (d, Proc.devRef .tc main_arg1) := by unfold WP opsP; after_reads_simp
  rw [h1, kept m d _ (.inr (.inr (.inr rfl))), h2]

/-- The words the points' gather reads hold the places. -/
theorem starts3_eq (s : Fin 8) (q : Fin 2048) :
    (WU m d (Proc.devRef .tc main_v41) : S8x2048x1.Idx → BitVec 32) (ix3 s q 0) = BitVec.ofNat 32 (place (found m d s q)).val := by
  have h : (WU m d (Proc.devRef .tc main_v41) : S8x2048x1.Idx → BitVec 32) (ix3 s q 0)
      = Scalar.select (IntOp.cmpi .slt ((WT m d (Proc.devRef .tc main_v30) : S8x2048.Idx → BitVec 32) (ix2 s q)) 0#32)
          (IntOp.addi ((WT m d (Proc.devRef .tc main_v30) : S8x2048.Idx → BitVec 32) (ix2 s q)) 16384#32)
          ((WT m d (Proc.devRef .tc main_v30) : S8x2048.Idx → BitVec 32) (ix2 s q)) := by
    unfold WU opsU
    after_reads_at
  have hl := (found_places m d).lt s q
  rw [h, kept_found, Routing.wrap_of_lt _ _ (hl.trans (by norm_num))]
  exact word_place _ hl

/-- So do those the weights' gather reads. -/
theorem starts2_eq (s : Fin 8) (q : Fin 2048) :
    (WU m d (Proc.devRef .tc main_v48) : S8x2048x1.Idx → BitVec 32) (ix3 s q 0) = BitVec.ofNat 32 (place (found m d s q)).val := by
  have h : (WU m d (Proc.devRef .tc main_v48) : S8x2048x1.Idx → BitVec 32) (ix3 s q 0)
      = Scalar.select (IntOp.cmpi .slt ((WT m d (Proc.devRef .tc main_v30) : S8x2048.Idx → BitVec 32) (ix2 s q)) 0#32)
          (IntOp.addi ((WT m d (Proc.devRef .tc main_v30) : S8x2048.Idx → BitVec 32) (ix2 s q)) 16384#32)
          ((WT m d (Proc.devRef .tc main_v30) : S8x2048.Idx → BitVec 32) (ix2 s q)) := by
    unfold WU opsU
    after_reads_at
  have hl := (found_places m d).lt s q
  rw [h, kept_found, Routing.wrap_of_lt _ _ (hl.trans (by norm_num))]
  exact word_place _ hl

/-- The first result's elements are the rows' and the columns' in turn. -/
theorem WU_v35 (s : Fin 8) (q : Fin 2048) (k : Fin 2) : (WU m d (Proc.devRef .tc main_v35) : SM.Idx → BitVec 32) (ix3 s q k)
    = if _h : k.val < 1 then (WT m d (Proc.devRef .tc main_v31) : S8x2048.Idx → BitVec 32) (ix2 s q)
      else (WT m d (Proc.devRef .tc main_v32) : S8x2048.Idx → BitVec 32) (ix2 s q) := by
  unfold WU opsU
  after_reads_at

/-- The first result holds the places' rows and columns, -/
theorem WU_cells : (WU m d (Proc.devRef .tc main_v35) : SM.Idx → BitVec 32) = cells (found m d) := by
  funext j
  obtain ⟨s, q, k, rfl⟩ : ∃ (s : Fin 8) (q : Fin 2048) (k : Fin 2), j = ix3 s q k := ⟨j 0, j 1, j 2, by idx_vars j⟩
  refine (WU_v35 m d s q k).trans ?_
  rw [kept_rows m d s q, columns_at m d s q]
  show _ = if k.val < 1 then _ else _
  fin_cases k <;> rfl

/-- the second the points there, -/
theorem WU_points : (WU m d (Proc.devRef .tc main_v42) : SP.Idx → EReal) = points (pts m d) (found m d) := by
  have h : (WU m d (Proc.devRef .tc main_v42) : SP.Idx → EReal)
      = Host.gather gather_S8x16384x3_S8x2048x1_S8x2048x3_2_1_0_0_1_2_113 (WT m d (Proc.devRef .tc main_v0) : S8x16384x3.Idx → EReal)
          (WU m d (Proc.devRef .tc main_v41) : S8x2048x1.Idx → BitVec 32) := by
    unfold WU opsU
    after_reads_simp
  funext j
  obtain ⟨s, q, k, rfl⟩ : ∃ (s : Fin 8) (q : Fin 2048) (k : Fin 3), j = ix3 s q k := ⟨j 0, j 1, j 2, by idx_vars j⟩
  rw [h]
  exact (gather3_at _ _ s q k _ (starts3_eq m d s q)).trans (kept_points m d s _ k)

/-- the third their weights. -/
theorem WU_weights : (WU m d (Proc.devRef .tc main_v49) : SW.Idx → EReal) = weights (cnf m d) (found m d) := by
  have h : (WU m d (Proc.devRef .tc main_v49) : SW.Idx → EReal)
      = Host.gather gather_S8x16384_S8x2048x1_S8x2048_n_1_0_0_1_2_11 (WT m d (Proc.devRef .tc main_v1) : S8x16384.Idx → EReal)
          (WU m d (Proc.devRef .tc main_v48) : S8x2048x1.Idx → BitVec 32) := by
    unfold WU opsU
    after_reads_simp
  funext j
  obtain ⟨s, q, rfl⟩ : ∃ (s : Fin 8) (q : Fin 2048), j = ix2 s q := ⟨j 0, j 1, by idx_vars j⟩
  rw [h]
  exact (gather2_at _ _ s q _ (starts2_eq m d s q)).trans (kept_weights m d s _)

end Cert.ReferenceIdeal.Hand
-- ==== Proof.lean ====
module

public import proofs.«01_k».proof.Defs
public import proofs.«01_k».proof.Proof.Gen.KernelIdeal
public import proofs.«01_k».proof.Proof.Gen.ReferenceIdeal
public import proofs.«01_k».proof.Proof.KernelIdeal.Values
public import proofs.«01_k».proof.Proof.ReferenceIdeal.Values

@[expose] public section

noncomputable section

namespace Cert.Proof

open Idealize.ShloMosaic Idealize.SL.Sem

/-- The kernel's program runs to its end and leaves its arguments alone. -/
theorem frame_kernel : Cert.quiescent_KernelIdeal (hKernelIdeal := Cert.KernelIdeal.Gen.facts) := fun m g _ =>
  θ_run_mono (Cert.KernelIdeal.Hand.run g (Cert.KernelIdeal.Hand.found_lt m)) fun _ h =>
    ⟨fun c => ⟨(h.1 c _ (Cert.KernelIdeal.Hand.mem_uc Cert.KernelIdeal.main_arg0 rfl)).trans (Cert.KernelIdeal.Hand.VE_arg0 m c),
      (h.1 c _ (Cert.KernelIdeal.Hand.mem_uc Cert.KernelIdeal.main_arg1 rfl)).trans (Cert.KernelIdeal.Hand.VE_arg1 m c)⟩, h.2⟩

/-- So does the reference. -/
theorem frame_reference : Cert.quiescent_ReferenceIdeal (hReferenceIdeal := Cert.ReferenceIdeal.Gen.facts) := fun m g _ =>
  θ_run_mono (Cert.ReferenceIdeal.Hand.run m g) fun _ h =>
    ⟨fun c => ⟨(h.1 c Cert.ReferenceIdeal.main_arg0).trans (Cert.ReferenceIdeal.Hand.WU_arg0 m c),
      (h.1 c Cert.ReferenceIdeal.main_arg1).trans (Cert.ReferenceIdeal.Hand.WU_arg1 m c)⟩, h.2⟩

/-- From equal arguments both leave the same three results: the places' rows and columns, the points there and their weights. -/
theorem results_equal : Cert.algebraic_KernelIdeal_ReferenceIdeal (hKernelIdeal := Cert.KernelIdeal.Gen.facts)
    (hReferenceIdeal := Cert.ReferenceIdeal.Gen.facts) := by
  intro m g m' g' _ hm
  have hI : ∀ c : Dev Cert.KernelIdeal.nD, Cert.ReferenceIdeal.Hand.found m' c = Cert.KernelIdeal.Hand.found m c := fun c => by
    have h' := Cert.ReferenceIdeal.Hand.found_places m' c
    rw [show Cert.ReferenceIdeal.Hand.pts m' c = Cert.KernelIdeal.Hand.pts m c from (hm c).1,
      show Cert.ReferenceIdeal.Hand.cnf m' c = Cert.KernelIdeal.Hand.cnf m c from (hm c).2] at h'
    exact h'.unique (Cert.KernelIdeal.Hand.found_places m c)
  refine ⟨fun c => Cert.Spec.cells (Cert.KernelIdeal.Hand.found m c),
    fun c => Cert.Spec.points (Cert.KernelIdeal.Hand.pts m c) (Cert.KernelIdeal.Hand.found m c),
    fun c => Cert.Spec.weights (Cert.KernelIdeal.Hand.cnf m c) (Cert.KernelIdeal.Hand.found m c), ?_, ?_⟩
  · refine θ_run_mono (Cert.KernelIdeal.Hand.run g (Cert.KernelIdeal.Hand.found_lt m)) fun _ h c => ⟨?_, ?_, ?_, ?_, ?_⟩
    · exact (h.1 c _ (Cert.KernelIdeal.Hand.mem_uc Cert.KernelIdeal.main_v37 rfl)).trans (Cert.KernelIdeal.Hand.VE_cells m c)
    · exact (h.1 c _ (Cert.KernelIdeal.Hand.mem_uc Cert.KernelIdeal.main_v44 rfl)).trans (Cert.KernelIdeal.Hand.VE_points m c)
    · exact (h.1 c _ (Cert.KernelIdeal.Hand.mem_uc Cert.KernelIdeal.main_v45 rfl)).trans (Cert.KernelIdeal.Hand.VE_weights m c)
    · exact (h.1 c _ (Cert.KernelIdeal.Hand.mem_uc Cert.KernelIdeal.main_arg0 rfl)).trans (Cert.KernelIdeal.Hand.VE_arg0 m c)
    · exact (h.1 c _ (Cert.KernelIdeal.Hand.mem_uc Cert.KernelIdeal.main_arg1 rfl)).trans (Cert.KernelIdeal.Hand.VE_arg1 m c)
  · refine θ_run_mono (Cert.ReferenceIdeal.Hand.run m' g') fun _ h c => ⟨?_, ?_, ?_, ?_, ?_⟩
    · exact ((h.1 c Cert.ReferenceIdeal.main_v35).trans (Cert.ReferenceIdeal.Hand.WU_cells m' c)).trans (by rw [hI])
    · exact ((h.1 c Cert.ReferenceIdeal.main_v42).trans (Cert.ReferenceIdeal.Hand.WU_points m' c)).trans (by
        rw [hI, show Cert.ReferenceIdeal.Hand.pts m' c = Cert.KernelIdeal.Hand.pts m c from (hm c).1])
    · exact ((h.1 c Cert.ReferenceIdeal.main_v49).trans (Cert.ReferenceIdeal.Hand.WU_weights m' c)).trans (by
        rw [hI, show Cert.ReferenceIdeal.Hand.cnf m' c = Cert.KernelIdeal.Hand.cnf m c from (hm c).2])
    · exact (h.1 c Cert.ReferenceIdeal.main_arg0).trans (Cert.ReferenceIdeal.Hand.WU_arg0 m' c)
    · exact (h.1 c Cert.ReferenceIdeal.main_arg1).trans (Cert.ReferenceIdeal.Hand.WU_arg1 m' c)

/-- The whole claim. -/
theorem claim : Cert.Claim :=
  ⟨Cert.KernelIdeal.Gen.facts, Cert.ReferenceIdeal.Gen.facts, frame_kernel, frame_reference, results_equal⟩

end Cert.Proof

end
